-- ==== Defs.lean ====
def Pre_Kernel [hPre_labels_in_range : Cert.Pre_labels_in_range.Facts] (m : (ℓ : Loc Cert.Kernel.nD Cert.Kernel.τ Cert.Kernel.sig) → Buf (Elt Bits) ℓ) : Prop :=
  ∀ c : Dev Cert.Kernel.nD,
    (Cert.Pre_labels_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_labels_in_range : Cert.Pre_labels_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_labels_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_in_range [hPre_labels_in_range : Cert.Pre_labels_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_labels_in_range : Cert.Pre_labels_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_labels_in_range [hReferenceIdeal : Cert.ReferenceIdeal.Facts] [hPre_labels_in_range : Cert.Pre_labels_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_labels_in_range : Cert.Pre_labels_in_range.Facts),
    quiescent_Kernel (hKernel := hKernel) (hPre_labels_in_range := hPre_labels_in_range)
    ∧ quiescent_KernelIdeal (hKernelIdeal := hKernelIdeal) (hPre_labels_in_range := hPre_labels_in_range)
    ∧ quiescent_ReferenceIdeal (hReferenceIdeal := hReferenceIdeal)
    ∧ quiescent_ReferenceIdeal_pre_labels_in_range (hReferenceIdeal := hReferenceIdeal) (hPre_labels_in_range := hPre_labels_in_range)
    ∧ preserves_Kernel_KernelIdeal
    ∧ algebraic_KernelIdeal_ReferenceIdeal (hKernelIdeal := hKernelIdeal) (hReferenceIdeal := hReferenceIdeal) (hPre_labels_in_range := hPre_labels_in_range)
-- ==== Pre_labels_in_range.lean ====
abbrev S32x3x64x64 : Shape := ⟨4, ![32, 3, 64, 64]⟩
abbrev S32x4096 : Shape := ⟨2, ![32, 4096]⟩
abbrev S12288x12288 : Shape := ⟨2, ![12288, 12288]⟩
abbrev S12288 : Shape := ⟨1, ![12288]⟩
abbrev S_ : Shape := ⟨0, ![]⟩

class Facts : Prop where
  bcast_S_S32x4096 : S_.BroadcastsInDim S32x4096 (![] : Fin 0 → Fin S32x4096.rank)

variable [Facts]

def fn {F : FTy → Type} [FloatOps F] (main_arg0 : FVec F S32x3x64x64 .f32) (main_arg1 : IVec S32x4096 32) (main_arg2 : FVec F S12288x12288 .f32) (main_arg3 : FVec F S12288 .f32) : IVec S32x4096 1 :=
  let main_c : IVec S_ 32 := constantI S_ 32 0#32
  let main_v0 : IVec S32x4096 32 := broadcastInDim S32x4096 ![] bcast_S_S32x4096 main_c
  let main_v1 : IVec S32x4096 1 := cmpi .sge main_arg1 main_v0
  let main_c_0 : IVec S_ 32 := constantI S_ 32 64#32
  let main_v2 : IVec S32x4096 32 := broadcastInDim S32x4096 ![] bcast_S_S32x4096 main_c_0
  let main_v3 : IVec S32x4096 1 := cmpi .slt main_arg1 main_v2
  let main_v4 : IVec S32x4096 1 := andi main_v1 main_v3
  main_v4
-- ==== Kernel.lean ====
abbrev S32x3x64x64 : Shape := ⟨4, ![32, 3, 64, 64]⟩
abbrev S32x4096 : Shape := ⟨2, ![32, 4096]⟩
abbrev S12288x12288 : Shape := ⟨2, ![12288, 12288]⟩
abbrev S12288 : Shape := ⟨1, ![12288]⟩
abbrev S32x12288 : Shape := ⟨2, ![32, 12288]⟩
abbrev S1x12288 : Shape := ⟨2, ![1, 12288]⟩
abbrev S256x12288 : Shape := ⟨2, ![256, 12288]⟩
abbrev S1x256 : Shape := ⟨2, ![1, 256]⟩
abbrev S32x256 : Shape := ⟨2, ![32, 256]⟩
abbrev S32x3x4096 : Shape := ⟨3, ![32, 3, 4096]⟩
abbrev S32x64x3 : Shape := ⟨3, ![32, 64, 3]⟩
abbrev S4096 : Shape := ⟨1, ![4096]⟩
abbrev S3x4096 : Shape := ⟨2, ![3, 4096]⟩
abbrev S64x3 : Shape := ⟨2, ![64, 3]⟩
abbrev S_ : Shape := ⟨0, ![]⟩
abbrev S1x4096 : Shape := ⟨2, ![1, 4096]⟩
abbrev S1x3x4096 : Shape := ⟨3, ![1, 3, 4096]⟩
abbrev S16 : Shape := ⟨1, ![16]⟩
abbrev S1x16 : Shape := ⟨2, ![1, 16]⟩
abbrev S1x64x3 : Shape := ⟨3, ![1, 64, 3]⟩

abbrev nBuf : Table → Nat
  | .hbm => 10
  | .local .tc .vmem => 7
  | .local .scVector .vmem => 4
  | _ => 0

abbrev bufTy : (tb : Table) → Fin (nBuf tb) → BufTy
  | .hbm, ⟨0, _⟩ => ⟨S32x3x64x64, .f32⟩
  | .hbm, ⟨1, _⟩ => ⟨S32x4096, .i32⟩
  | .hbm, ⟨2, _⟩ => ⟨S12288x12288, .f32⟩
  | .hbm, ⟨3, _⟩ => ⟨S12288, .f32⟩
  | .hbm, ⟨4, _⟩ => ⟨S32x12288, .f32⟩
  | .hbm, ⟨5, _⟩ => ⟨S32x12288, .bf16⟩
  | .hbm, ⟨6, _⟩ => ⟨S1x12288, .f32⟩
  | .hbm, ⟨7, _⟩ => ⟨S32x12288, .f32⟩
  | .hbm, ⟨8, _⟩ => ⟨S32x3x4096, .f32⟩
  | .hbm, ⟨9, _⟩ => ⟨S32x64x3, .f32⟩
  | .local .tc .vmem, ⟨0, _⟩ => ⟨S32x12288, .bf16⟩
  | .local .tc .vmem, ⟨1, _⟩ => ⟨S256x12288, .f32⟩
  | .local .tc .vmem, ⟨2, _⟩ => ⟨S256x12288, .f32⟩
  | .local .tc .vmem, ⟨3, _⟩ => ⟨S1x256, .f32⟩
  | .local .tc .vmem, ⟨4, _⟩ => ⟨S1x256, .f32⟩
  | .local .tc .vmem, ⟨5, _⟩ => ⟨S32x256, .f32⟩
  | .local .tc .vmem, ⟨6, _⟩ => ⟨S32x256, .f32⟩
  | .local .scVector .vmem, ⟨0, _⟩ => ⟨S4096, .i32⟩
  | .local .scVector .vmem, ⟨1, _⟩ => ⟨S3x4096, .f32⟩
  | .local .scVector .vmem, ⟨2, _⟩ => ⟨S4096, .f32⟩
  | .local .scVector .vmem, ⟨3, _⟩ => ⟨S64x3, .f32⟩
  | _, _ => ⟨S32x3x64x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => false
  | ⟨8, _⟩ => false
  | ⟨9, _⟩ => false
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v4_scv : Ref sig .scVector := ⟨.hbm, 8, rfl⟩
abbrev main_arg1_scv : Ref sig .scVector := ⟨.hbm, 1, rfl⟩
abbrev main_v5_scv : Ref sig .scVector := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x12288 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x12288 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 16], ![false, false]⟩

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_29_r0 : BitVec 32 := 0#32
  ![v1.toNat, 0]
def k1_off2 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_29_r1 : BitVec 32 := 0#32
  let c0_i32_30_r1 : BitVec 32 := 0#32
  ![v1.toNat, 0, 0]
@[reducible] def k1_t1_loop : Scf.Loop 32 :=
  let c0_i32_1 : BitVec 32 := 0#32
  let c256_i32 : BitVec 32 := 256#32
  let v5 : BitVec 32 := Scalar.addi c0_i32_1 c256_i32
  let c1_i32 : BitVec 32 := 1#32
  ⟨c0_i32_1, v5, c1_i32⟩
def k1_off3 (k1_t1 : Fin k1_t1_loop.trips) : Fin 1 → Nat :=
  let c0_i32_1 : BitVec 32 := 0#32
  let c1_i32 : BitVec 32 := 1#32
  let arg9 : BitVec 32 := Scf.iv c0_i32_1 c1_i32 k1_t1
  let c16_i32_29 : BitVec 32 := 16#32
  let v569 : BitVec 32 := Scalar.muli arg9 c16_i32_29
  let v570 : Index := Scalar.indexCast v569
  ![v570.toNat]
@[reducible] def k1_t2_loop : Scf.Loop 32 :=
  let c0_i32_4 : BitVec 32 := 0#32
  let c256_i32_5 : BitVec 32 := 256#32
  let v7 : BitVec 32 := Scalar.addi c0_i32_4 c256_i32_5
  let c1_i32_6 : BitVec 32 := 1#32
  ⟨c0_i32_4, v7, c1_i32_6⟩
def k1_off4 (k1_t2 : Fin k1_t2_loop.trips) : Fin 1 → Nat :=
  let c0_i32_4 : BitVec 32 := 0#32
  let c1_i32_6 : BitVec 32 := 1#32
  let arg9 : BitVec 32 := Scf.iv c0_i32_4 c1_i32_6 k1_t2
  let c16_i32_29 : BitVec 32 := 16#32
  let v569 : BitVec 32 := Scalar.muli arg9 c16_i32_29
  let v570 : Index := Scalar.indexCast v569
  ![v570.toNat]
def k1_off5 (k1_t2 : Fin k1_t2_loop.trips) : Fin 2 → Nat :=
  let c0_i32_31 : BitVec 32 := 0#32
  let v576 : Index := Scalar.indexCast c0_i32_31
  let c0_i32_4 : BitVec 32 := 0#32
  let c1_i32_6 : BitVec 32 := 1#32
  let arg9 : BitVec 32 := Scf.iv c0_i32_4 c1_i32_6 k1_t2
  let c16_i32_30 : BitVec 32 := 16#32
  let v575 : BitVec 32 := Scalar.muli arg9 c16_i32_30
  let v577 : Index := Scalar.indexCast v575
  ![0, v577.toNat]

def k1_chk1 (v580 : IVec S16 32) : Prop :=
  (∀ a x, ((![v580] : Fin 1 → IVec S16 32) a x).toNat < S4096.size a)
theorem k1_idx1_inb : ∀ (v580 : IVec S16 32) (k1_hw1 : k1_chk1 v580), ∀ a x, ((![v580] : Fin 1 → IVec S16 32) a x).toNat < S4096.size a := fun v580 k1_hw1 => k1_hw1
def k1_off6 (k1_t2 : Fin k1_t2_loop.trips) : Fin 2 → Nat :=
  let c1_i32_34 : BitVec 32 := 1#32
  let v582 : Index := Scalar.indexCast c1_i32_34
  let c0_i32_4 : BitVec 32 := 0#32
  let c1_i32_6 : BitVec 32 := 1#32
  let arg9 : BitVec 32 := Scf.iv c0_i32_4 c1_i32_6 k1_t2
  let c16_i32_33 : BitVec 32 := 16#32
  let v581 : BitVec 32 := Scalar.muli arg9 c16_i32_33
  let v583 : Index := Scalar.indexCast v581
  ![1, v583.toNat]

def k1_chk2 (v586 : IVec S16 32) : Prop :=
  (∀ a x, ((![v586] : Fin 1 → IVec S16 32) a x).toNat < S4096.size a)
theorem k1_idx2_inb : ∀ (v586 : IVec S16 32) (k1_hw2 : k1_chk2 v586), ∀ a x, ((![v586] : Fin 1 → IVec S16 32) a x).toNat < S4096.size a := fun v586 k1_hw2 => k1_hw2
def k1_off7 (k1_t2 : Fin k1_t2_loop.trips) : Fin 2 → Nat :=
  let c2_i32_36 : BitVec 32 := 2#32
  let v588 : Index := Scalar.indexCast c2_i32_36
  let c0_i32_4 : BitVec 32 := 0#32
  let c1_i32_6 : BitVec 32 := 1#32
  let arg9 : BitVec 32 := Scf.iv c0_i32_4 c1_i32_6 k1_t2
  let c16_i32_35 : BitVec 32 := 16#32
  let v587 : BitVec 32 := Scalar.muli arg9 c16_i32_35
  let v589 : Index := Scalar.indexCast v587
  ![2, v589.toNat]

def k1_chk3 (v592 : IVec S16 32) : Prop :=
  (∀ a x, ((![v592] : Fin 1 → IVec S16 32) a x).toNat < S4096.size a)
theorem k1_idx3_inb : ∀ (v592 : IVec S16 32) (k1_hw3 : k1_chk3 v592), ∀ a x, ((![v592] : Fin 1 → IVec S16 32) a x).toNat < S4096.size a := fun v592 k1_hw3 => k1_hw3

def k1_chk4 (v594 : IVec S16 32) : Prop :=
  (∀ a x, ((![v594] : Fin 1 → IVec S16 32) a x).toNat < S4096.size a)
theorem k1_idx4_inb : ∀ (v594 : IVec S16 32) (k1_hw4 : k1_chk4 v594), ∀ a x, ((![v594] : Fin 1 → IVec S16 32) a x).toNat < S4096.size a := fun v594 k1_hw4 => k1_hw4

def k1_chk5 (v46 : IVec S16 32) (v79 : IVec S16 32) : Prop :=
  (∀ a x, ((![v46, v79] : Fin 2 → IVec S16 32) a x).toNat < S64x3.size a)
theorem k1_idx5_inb : ∀ (v46 : IVec S16 32) (v79 : IVec S16 32) (k1_hw5 : k1_chk5 v46 v79), ∀ a x, ((![v46, v79] : Fin 2 → IVec S16 32) a x).toNat < S64x3.size a := fun v46 v79 k1_hw5 => k1_hw5

def k1_chk6 (v46 : IVec S16 32) (v113 : IVec S16 32) : Prop :=
  (∀ a x, ((![v46, v113] : Fin 2 → IVec S16 32) a x).toNat < S64x3.size a)
theorem k1_idx6_inb : ∀ (v46 : IVec S16 32) (v113 : IVec S16 32) (k1_hw6 : k1_chk6 v46 v113), ∀ a x, ((![v46, v113] : Fin 2 → IVec S16 32) a x).toNat < S64x3.size a := fun v46 v113 k1_hw6 => k1_hw6

def k1_chk7 (v46 : IVec S16 32) (v147 : IVec S16 32) : Prop :=
  (∀ a x, ((![v46, v147] : Fin 2 → IVec S16 32) a x).toNat < S64x3.size a)
theorem k1_idx7_inb : ∀ (v46 : IVec S16 32) (v147 : IVec S16 32) (k1_hw7 : k1_chk7 v46 v147), ∀ a x, ((![v46, v147] : Fin 2 → IVec S16 32) a x).toNat < S64x3.size a := fun v46 v147 k1_hw7 => k1_hw7

def k1_chk8 (v186 : IVec S16 32) (v219 : IVec S16 32) : Prop :=
  (∀ a x, ((![v186, v219] : Fin 2 → IVec S16 32) a x).toNat < S64x3.size a)
theorem k1_idx8_inb : ∀ (v186 : IVec S16 32) (v219 : IVec S16 32) (k1_hw8 : k1_chk8 v186 v219), ∀ a x, ((![v186, v219] : Fin 2 → IVec S16 32) a x).toNat < S64x3.size a := fun v186 v219 k1_hw8 => k1_hw8

def k1_chk9 (v186 : IVec S16 32) (v253 : IVec S16 32) : Prop :=
  (∀ a x, ((![v186, v253] : Fin 2 → IVec S16 32) a x).toNat < S64x3.size a)
theorem k1_idx9_inb : ∀ (v186 : IVec S16 32) (v253 : IVec S16 32) (k1_hw9 : k1_chk9 v186 v253), ∀ a x, ((![v186, v253] : Fin 2 → IVec S16 32) a x).toNat < S64x3.size a := fun v186 v253 k1_hw9 => k1_hw9

def k1_chk10 (v186 : IVec S16 32) (v287 : IVec S16 32) : Prop :=
  (∀ a x, ((![v186, v287] : Fin 2 → IVec S16 32) a x).toNat < S64x3.size a)
theorem k1_idx10_inb : ∀ (v186 : IVec S16 32) (v287 : IVec S16 32) (k1_hw10 : k1_chk10 v186 v287), ∀ a x, ((![v186, v287] : Fin 2 → IVec S16 32) a x).toNat < S64x3.size a := fun v186 v287 k1_hw10 => k1_hw10

def k1_chk11 (v326 : IVec S16 32) (v359 : IVec S16 32) : Prop :=
  (∀ a x, ((![v326, v359] : Fin 2 → IVec S16 32) a x).toNat < S64x3.size a)
theorem k1_idx11_inb : ∀ (v326 : IVec S16 32) (v359 : IVec S16 32) (k1_hw11 : k1_chk11 v326 v359), ∀ a x, ((![v326, v359] : Fin 2 → IVec S16 32) a x).toNat < S64x3.size a := fun v326 v359 k1_hw11 => k1_hw11

def k1_chk12 (v326 : IVec S16 32) (v393 : IVec S16 32) : Prop :=
  (∀ a x, ((![v326, v393] : Fin 2 → IVec S16 32) a x).toNat < S64x3.size a)
theorem k1_idx12_inb : ∀ (v326 : IVec S16 32) (v393 : IVec S16 32) (k1_hw12 : k1_chk12 v326 v393), ∀ a x, ((![v326, v393] : Fin 2 → IVec S16 32) a x).toNat < S64x3.size a := fun v326 v393 k1_hw12 => k1_hw12

def k1_chk13 (v326 : IVec S16 32) (v427 : IVec S16 32) : Prop :=
  (∀ a x, ((![v326, v427] : Fin 2 → IVec S16 32) a x).toNat < S64x3.size a)
theorem k1_idx13_inb : ∀ (v326 : IVec S16 32) (v427 : IVec S16 32) (k1_hw13 : k1_chk13 v326 v427), ∀ a x, ((![v326, v427] : Fin 2 → IVec S16 32) a x).toNat < S64x3.size a := fun v326 v427 k1_hw13 => k1_hw13

def k1_chk14 (v466 : IVec S16 32) (v499 : IVec S16 32) : Prop :=
  (∀ a x, ((![v466, v499] : Fin 2 → IVec S16 32) a x).toNat < S64x3.size a)
theorem k1_idx14_inb : ∀ (v466 : IVec S16 32) (v499 : IVec S16 32) (k1_hw14 : k1_chk14 v466 v499), ∀ a x, ((![v466, v499] : Fin 2 → IVec S16 32) a x).toNat < S64x3.size a := fun v466 v499 k1_hw14 => k1_hw14

def k1_chk15 (v466 : IVec S16 32) (v533 : IVec S16 32) : Prop :=
  (∀ a x, ((![v466, v533] : Fin 2 → IVec S16 32) a x).toNat < S64x3.size a)
theorem k1_idx15_inb : ∀ (v466 : IVec S16 32) (v533 : IVec S16 32) (k1_hw15 : k1_chk15 v466 v533), ∀ a x, ((![v466, v533] : Fin 2 → IVec S16 32) a x).toNat < S64x3.size a := fun v466 v533 k1_hw15 => k1_hw15

def k1_chk16 (v466 : IVec S16 32) (v567 : IVec S16 32) : Prop :=
  (∀ a x, ((![v466, v567] : Fin 2 → IVec S16 32) a x).toNat < S64x3.size a)
theorem k1_idx16_inb : ∀ (v466 : IVec S16 32) (v567 : IVec S16 32) (k1_hw16 : k1_chk16 v466 v567), ∀ a x, ((![v466, v567] : Fin 2 → IVec S16 32) a x).toNat < S64x3.size a := fun v466 v567 k1_hw16 => k1_hw16
def k1_off8 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_29_r2 : BitVec 32 := 0#32
  let c0_i32_30_r2 : BitVec 32 := 0#32
  ![v1.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32x3x64x64 : Shape := ⟨4, ![32, 3, 64, 64]⟩
abbrev S32x4096 : Shape := ⟨2, ![32, 4096]⟩
abbrev S12288x12288 : Shape := ⟨2, ![12288, 12288]⟩
abbrev S12288 : Shape := ⟨1, ![12288]⟩
abbrev S32x12288 : Shape := ⟨2, ![32, 12288]⟩
abbrev S1x12288 : Shape := ⟨2, ![1, 12288]⟩
abbrev S32x3x4096 : Shape := ⟨3, ![32, 3, 4096]⟩
abbrev S32 : Shape := ⟨1, ![32]⟩
abbrev S32x1 : Shape := ⟨2, ![32, 1]⟩
abbrev S_ : Shape := ⟨0, ![]⟩
abbrev S131072 : Shape := ⟨1, ![131072]⟩
abbrev S32x4096x3 : Shape := ⟨3, ![32, 4096, 3]⟩
abbrev S131072x3 : Shape := ⟨2, ![131072, 3]⟩
abbrev S2048x3 : Shape := ⟨2, ![2048, 3]⟩
abbrev S131072x1 : Shape := ⟨2, ![131072, 1]⟩
abbrev S2048 : Shape := ⟨1, ![2048]⟩
abbrev S2048x1 : Shape := ⟨2, ![2048, 1]⟩
abbrev S32x64x3 : Shape := ⟨3, ![32, 64, 3]⟩

abbrev nBuf : Space → Nat
  | .hbm => 38
  | .vmem => 0
  | .smem => 0
  | _ => 0

abbrev bufTy : (tb : Table) → Fin (tcTables nBuf tb) → BufTy
  | .hbm, ⟨0, _⟩ => ⟨S32x3x64x64, .f32⟩
  | .hbm, ⟨1, _⟩ => ⟨S32x4096, .i32⟩
  | .hbm, ⟨2, _⟩ => ⟨S12288x12288, .f32⟩
  | .hbm, ⟨3, _⟩ => ⟨S12288, .f32⟩
  | .hbm, ⟨4, _⟩ => ⟨S32x12288, .f32⟩
  | .hbm, ⟨5, _⟩ => ⟨S12288x12288, .f32⟩
  | .hbm, ⟨6, _⟩ => ⟨S32x12288, .f32⟩
  | .hbm, ⟨7, _⟩ => ⟨S1x12288, .f32⟩
  | .hbm, ⟨8, _⟩ => ⟨S32x12288, .f32⟩
  | .hbm, ⟨9, _⟩ => ⟨S32x12288, .f32⟩
  | .hbm, ⟨10, _⟩ => ⟨S32x3x4096, .f32⟩
  | .hbm, ⟨11, _⟩ => ⟨S32, .i32⟩
  | .hbm, ⟨12, _⟩ => ⟨S32x1, .i32⟩
  | .hbm, ⟨13, _⟩ => ⟨S_, .i32⟩
  | .hbm, ⟨14, _⟩ => ⟨S32x1, .i32⟩
  | .hbm, ⟨15, _⟩ => ⟨S32x1, .i32⟩
  | .hbm, ⟨16, _⟩ => ⟨S32x4096, .i32⟩
  | .hbm, ⟨17, _⟩ => ⟨S32x4096, .i32⟩
  | .hbm, ⟨18, _⟩ => ⟨S131072, .i32⟩
  | .hbm, ⟨19, _⟩ => ⟨S32x4096x3, .f32⟩
  | .hbm, ⟨20, _⟩ => ⟨S131072x3, .f32⟩
  | .hbm, ⟨21, _⟩ => ⟨S_, .f32⟩
  | .hbm, ⟨22, _⟩ => ⟨S2048x3, .f32⟩
  | .hbm, ⟨23, _⟩ => ⟨S131072x1, .i32⟩
  | .hbm, ⟨24, _⟩ => ⟨S2048x3, .f32⟩
  | .hbm, ⟨25, _⟩ => ⟨S_, .f32⟩
  | .hbm, ⟨26, _⟩ => ⟨S131072, .f32⟩
  | .hbm, ⟨27, _⟩ => ⟨S_, .f32⟩
  | .hbm, ⟨28, _⟩ => ⟨S2048, .f32⟩
  | .hbm, ⟨29, _⟩ => ⟨S131072x1, .i32⟩
  | .hbm, ⟨30, _⟩ => ⟨S2048, .f32⟩
  | .hbm, ⟨31, _⟩ => ⟨S_, .f32⟩
  | .hbm, ⟨32, _⟩ => ⟨S2048, .f32⟩
  | .hbm, ⟨33, _⟩ => ⟨S2048, .f32⟩
  | .hbm, ⟨34, _⟩ => ⟨S2048x1, .f32⟩
  | .hbm, ⟨35, _⟩ => ⟨S2048x3, .f32⟩
  | .hbm, ⟨36, _⟩ => ⟨S2048x3, .f32⟩
  | .hbm, ⟨37, _⟩ => ⟨S32x64x3, .f32⟩
  | _, _ => ⟨S32x3x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== Proof.StoreIdx.lean ====
/- A scatter into tile memory whose sixteen lanes name distinct elements, read element by element. -/
module

public import Idealize.ShloMosaic.Lib.PointwiseCore
public import Idealize.ShloMosaic.Lib.SparseCore.Ops

@[expose] public section

noncomputable section

namespace Cert.Proof

open Idealize.ShloMosaic

variable {F : FTy → Type} [FloatOps F]

/-- Writing one element after another, no two writes at one place: an element none of the writes names is unchanged. -/
theorem foldl_write_miss {ι κ α : Type} [DecidableEq κ] (i : ι → κ) (y : α → ι → α) (j : κ) :
    ∀ (l : List ι) (f : κ → α), (∀ k ∈ l, i k ≠ j) →
      l.foldl (fun g k => fun j => if j = i k then y (g (i k)) k else g j) f j = f j
  | [], _, _ => rfl
  | k :: l, f, h => by
    rw [List.foldl_cons, foldl_write_miss i y j l _ fun k' hk' => h k' (List.mem_cons_of_mem _ hk')]
    exact if_neg (Ne.symm (h k List.mem_cons_self))

/-- The same, the element a write names: it holds that write's value over what was there at first. -/
theorem foldl_write_hit {ι κ α : Type} [DecidableEq κ] (i : ι → κ) (hi : Function.Injective i) (y : α → ι → α) (k₀ : ι) :
    ∀ (l : List ι) (f : κ → α), l.Nodup → k₀ ∈ l →
      l.foldl (fun g k => fun j => if j = i k then y (g (i k)) k else g j) f (i k₀) = y (f (i k₀)) k₀
  | [], _, _, h => absurd h List.not_mem_nil
  | k :: l, f, hn, hm => by
    rw [List.foldl_cons]
    by_cases hk : k = k₀
    · subst hk
      rw [foldl_write_miss i y (i k) l _ fun k' hk' he => (List.nodup_cons.mp hn).1 (hi he ▸ hk')]
      exact if_pos rfl
    · have hm' : k₀ ∈ l := (List.mem_cons.mp hm).resolve_left fun h => hk h.symm
      rw [foldl_write_hit i hi y k₀ l _ (List.nodup_cons.mp hn).2 hm']
      rw [if_neg fun h => hk (hi h).symm]

/-- `storeIdx` of an unmasked scatter as a chain of single writes. -/
theorem storeIdx_eq_foldl {s : Shape} {e : EltTy} {d : Fin 1 → Nat} (f : Vec F s e) (idxs : Fin s.rank → IVec ⟨1, d⟩ 32) (v : Vec F ⟨1, d⟩ e)
    (add : Bool) (h : ∀ a x, (idxs a x).toNat < s.size a) :
    storeIdx f idxs v (fun _ => 1#1) add h
      = (List.finRange (d 0)).foldl (fun g k => fun j => if j = idxAt idxs h (Shape.ofLane k) then
          (fun (z : Elt F e) (k : Fin (d 0)) => if add then Elt.idxAdd e z (v (Shape.ofLane k)) else v (Shape.ofLane k)) (g (idxAt idxs h (Shape.ofLane k))) k else g j) f := by
  unfold storeIdx
  congr 1
  funext g k j
  dsimp only; refine (congrFun (if_pos ?_) j).trans ?_; · rfl
  by_cases hj : j = idxAt idxs h (Shape.ofLane k)
  · rw [if_pos hj, if_pos fun a => by rw [hj]]
  · rw [if_neg hj, if_neg fun hh => hj (funext fun a => Fin.ext (hh a))]

/-- An element no lane names keeps what it held. -/
theorem storeIdx_miss {s : Shape} {e : EltTy} {d : Fin 1 → Nat} (f : Vec F s e) (idxs : Fin s.rank → IVec ⟨1, d⟩ 32) (v : Vec F ⟨1, d⟩ e)
    (add : Bool) (h : ∀ a x, (idxs a x).toNat < s.size a) (j : s.Idx) (hj : ∀ k : Fin (d 0), idxAt idxs h (Shape.ofLane k) ≠ j) :
    storeIdx f idxs v (fun _ => 1#1) add h j = f j := by
  classical
  rw [storeIdx_eq_foldl]
  exact foldl_write_miss (fun k => idxAt idxs h (Shape.ofLane k))
    (fun z k => if add then Elt.idxAdd e z (v (Shape.ofLane k)) else v (Shape.ofLane k)) j _ f fun k _ => hj k

/-- The element lane `k` names, no other lane naming it: the lane's value, or the sum onto what it held. -/
theorem storeIdx_hit {s : Shape} {e : EltTy} {d : Fin 1 → Nat} (f : Vec F s e) (idxs : Fin s.rank → IVec ⟨1, d⟩ 32) (v : Vec F ⟨1, d⟩ e)
    (add : Bool) (h : ∀ a x, (idxs a x).toNat < s.size a) (hi : Function.Injective fun k : Fin (d 0) => idxAt idxs h (Shape.ofLane k)) (k : Fin (d 0)) :
    storeIdx f idxs v (fun _ => 1#1) add h (idxAt idxs h (Shape.ofLane k))
      = if add then Elt.idxAdd e (f (idxAt idxs h (Shape.ofLane k))) (v (Shape.ofLane k)) else v (Shape.ofLane k) := by
  classical
  rw [storeIdx_eq_foldl]
  exact foldl_write_hit (fun k => idxAt idxs h (Shape.ofLane k)) hi
    (fun z k => if add then Elt.idxAdd e z (v (Shape.ofLane k)) else v (Shape.ofLane k)) k _ f (List.nodup_finRange _) (List.mem_finRange _)

end Cert.Proof
-- ==== Proof.Spec.lean ====
/- What one tile computes, as functions of the row of labels and the row of values it fetches: the lane accumulators
   after a number of trips of the scatter loop, the sums over lanes, and the row of means it writes out. -/
module

public import proofs.«01_k».proof.Proof.StoreIdx

@[expose] public section

noncomputable section

namespace Cert.Proof

open Idealize.ShloMosaic

variable {F : FTy → Type} [FloatOps F]

/-- The accumulators: four channels (three of values, one of counts) of sixteen lanes of sixty-four labels. -/
abbrev Acc (F : FTy → Type) : Type := Vec F ⟨1, ![4096]⟩ .f32
/-- A row of labels, one per pixel. -/
abbrev Seg (F : FTy → Type) : Type := Vec F ⟨1, ![4096]⟩ .i32
/-- A row of values, three channels of one per pixel. -/
abbrev Pix (F : FTy → Type) : Type := Vec F ⟨2, ![3, 4096]⟩ .f32

/-- Zero and one, as the kernel writes them. -/
abbrev zeroF : F .f32 := Scalar.ofBits .f32 0x00000000#32
abbrev oneF : F .f32 := Scalar.ofBits .f32 0x3F800000#32

/-- A place in the accumulators. -/
def place (k : ℕ) : (⟨1, ![4096]⟩ : Shape).Idx := ix1 ⟨k % 4096, Nat.mod_lt _ (by norm_num)⟩

/-- A place's number. -/
theorem place_val {k : ℕ} (h : k < 4096) (a : Fin 1) : (place k a).val = k := by
  obtain rfl : a = 0 := Subsingleton.elim _ _
  exact Nat.mod_eq_of_lt h

/-- Every index of the accumulators is the place of its number. -/
theorem eq_place (j : (⟨1, ![4096]⟩ : Shape).Idx) : j = place (j 0).val := by
  funext a; obtain rfl : a = 0 := Subsingleton.elim _ _
  exact Fin.ext (place_val (j 0).isLt 0).symm

/-- What lane `l` adds to channel `c` in trip `n`: its pixel's value, or one for the counts. -/
def addend (x : Pix F) (n c l : ℕ) : F .f32 :=
  if h : c < 3 then x (ix2 ⟨c, h⟩ ⟨(16 * n + l) % 4096, Nat.mod_lt _ (by norm_num)⟩) else oneF

/-- One channel's scatter of trip `n`: each lane's addend onto its own accumulator of its pixel's label. -/
def stepCh (seg : Seg F) (x : Pix F) (n c : ℕ) (A : Acc F) : Acc F := fun j =>
  if (j 0).val / 1024 = c ∧ (seg (place (16 * n + (j 0).val % 1024 / 64))).toNat = (j 0).val % 64
  then FloatOps.idxAddf (A j) (addend x n c ((j 0).val % 1024 / 64)) else A j

/-- One trip of the scatter loop: the three channels of values, then the counts. -/
def step (seg : Seg F) (x : Pix F) (n : ℕ) (A : Acc F) : Acc F :=
  stepCh seg x n 3 (stepCh seg x n 2 (stepCh seg x n 1 (stepCh seg x n 0 A)))

/-- The accumulators after `n` trips, from zeros. -/
def accAt (seg : Seg F) (x : Pix F) : ℕ → Acc F
  | 0 => fun _ => zeroF
  | n + 1 => step seg x n (accAt seg x n)

/-- The sum of channel `c`'s first `n` lanes at label `s`, lowest lane first, from zero. -/
def cumAt (A : Acc F) (c s : ℕ) : ℕ → F .f32
  | 0 => zeroF
  | n + 1 => FloatOps.addf (cumAt A c s n) (A (place (1024 * c + 64 * n + s)))

/-- The row of means: a channel's sum over the lanes times the reciprocal of the count, at least one. -/
def meanOf (A : Acc F) : Vec F ⟨2, ![64, 3]⟩ .f32 := fun y =>
  FloatOps.mulf (cumAt A (y 1).val (y 0).val 16) (FloatOps.divf oneF (FloatOps.maximumf (cumAt A 3 (y 0).val 16) oneF))

/-- The row a tile writes, of its rows of labels and values. -/
def rowMeans (seg : Seg F) (x : Pix F) : Vec F ⟨2, ![64, 3]⟩ .f32 := meanOf (accAt seg x 256)

/-- A scatter with add whose lane `l` names channel `c`'s accumulator `l` of its pixel's label is one channel's step. -/
theorem storeIdx_step (seg : Seg F) (x : Pix F) {n c : ℕ} (hn : n < 256) (hc : c < 4) (hs : ∀ j, (seg j).toNat < 64) (A : Acc F)
    (iv : IVec ⟨1, ![16]⟩ 32) (v : Vec F ⟨1, ![16]⟩ .f32) (h : ∀ a y, ((![iv] : Fin 1 → IVec ⟨1, ![16]⟩ 32) a y).toNat < (⟨1, ![4096]⟩ : Shape).size a)
    (hiv : ∀ l : Fin 16, (iv (ix1 l)).toNat = 1024 * c + 64 * l.val + (seg (place (16 * n + l.val))).toNat)
    (hv : ∀ l : Fin 16, v (ix1 l) = addend x n c l.val) :
    storeIdx (e := .f32) A (![iv] : Fin 1 → IVec ⟨1, ![16]⟩ 32) v (fun _ => 1#1) true h = stepCh seg x n c A := by
  have hof : ∀ l : Fin 16, (Shape.ofLane (d := ![16]) l : (⟨1, ![16]⟩ : Shape).Idx) = ix1 l := fun l => by
    funext a; obtain rfl : a = 0 := Subsingleton.elim _ _; rfl
  have hat : ∀ l : Fin 16, idxAt (s := ⟨1, ![4096]⟩) (![iv] : Fin 1 → IVec ⟨1, ![16]⟩ 32) h (Shape.ofLane (d := ![16]) l)
      = place (1024 * c + 64 * l.val + (seg (place (16 * n + l.val))).toNat) := fun l => by
    have hl : 1024 * c + 64 * l.val + (seg (place (16 * n + l.val))).toNat < 4096 := by
      have := hs (place (16 * n + l.val)); have := l.isLt; omega
    funext a; apply Fin.ext
    rw [place_val hl, ← hiv l, ← hof l]
    obtain rfl : a = 0 := Subsingleton.elim _ _
    rfl
  have hval : ∀ l : Fin 16, ((place (1024 * c + 64 * l.val + (seg (place (16 * n + l.val))).toNat)) 0).val
      = 1024 * c + 64 * l.val + (seg (place (16 * n + l.val))).toNat := fun l => by
    apply place_val; have := hs (place (16 * n + l.val)); have := l.isLt; omega
  have hinj : Function.Injective fun k : Fin 16 => idxAt (s := ⟨1, ![4096]⟩) (![iv] : Fin 1 → IVec ⟨1, ![16]⟩ 32) h (Shape.ofLane (d := ![16]) k) := by
    intro k k' hk
    dsimp only at hk
    rw [hat, hat] at hk
    have := congrArg (fun j : (⟨1, ![4096]⟩ : Shape).Idx => (j 0).val) hk
    dsimp only at this
    rw [hval, hval] at this
    have h1 := hs (place (16 * n + k.val)); have h2 := hs (place (16 * n + k'.val))
    exact Fin.ext (by omega)
  funext j
  by_cases hj : ∃ l : Fin 16, place (1024 * c + 64 * l.val + (seg (place (16 * n + l.val))).toNat) = j
  · obtain ⟨l, rfl⟩ := hj
    have h1 := hs (place (16 * n + l.val)); have h2 := l.isLt
    have hhit := storeIdx_hit (e := .f32) (d := ![16]) A (![iv] : Fin 1 → IVec ⟨1, ![16]⟩ 32) v true h hinj l
    rw [hat l] at hhit
    refine hhit.trans ?_
    unfold stepCh
    have e1 : (1024 * c + 64 * l.val + (seg (place (16 * n + l.val))).toNat) / 1024 = c := by omega
    have e2 : (1024 * c + 64 * l.val + (seg (place (16 * n + l.val))).toNat) % 1024 / 64 = l.val := by omega
    have e3 : (1024 * c + 64 * l.val + (seg (place (16 * n + l.val))).toNat) % 64 = (seg (place (16 * n + l.val))).toNat := by omega
    rw [hval l, e1, e2, e3, if_pos rfl, if_pos ⟨rfl, rfl⟩, hof l, hv l]
    rfl
  · rw [storeIdx_miss (e := .f32) (d := ![16]) A (![iv] : Fin 1 → IVec ⟨1, ![16]⟩ 32) v true h j fun k hk => hj ⟨k, (hat k).symm.trans hk⟩]
    unfold stepCh
    rw [if_neg]
    rintro ⟨h1, h2⟩
    have hj0 : (j 0).val < 4096 := (j 0).isLt
    refine hj ⟨⟨(j 0).val % 1024 / 64, by omega⟩, ?_⟩
    dsimp only
    rw [h2]
    conv_rhs => rw [eq_place j]
    congr 1
    omega

/-- The rows of means written so far: `g` holds the means of every label and channel of the first `n` scatters. -/
def Done (A : Acc F) (n : ℕ) (g : Vec F ⟨2, ![64, 3]⟩ .f32) : Prop :=
  ∀ y, 3 * ((y 0).val / 16) + (y 1).val < n → g y = meanOf A y

/-- Before the first scatter nothing is asked. -/
theorem Done.zero (A : Acc F) (g : Vec F ⟨2, ![64, 3]⟩ .f32) : Done A 0 g := fun _ h => absurd h (Nat.not_lt_zero _)

/-- After the twelve scatters the scratch holds the row of means. -/
theorem Done.all {A : Acc F} {g : Vec F ⟨2, ![64, 3]⟩ .f32} (h : Done A 12 g) : g = meanOf A :=
  funext fun y => h y (by have h0 : (y 0).val < 64 := (y 0).isLt; have h1 : (y 1).val < 3 := (y 1).isLt; omega)

/-- One more scatter: sixteen labels of one channel. -/
theorem Done.step {A : Acc F} {n : ℕ} {g : Vec F ⟨2, ![64, 3]⟩ .f32} (hg : Done A n g) (j c : ℕ) (hj : j < 4) (hc : c < 3) (hn : n = 3 * j + c)
    (v0 v1 : IVec ⟨1, ![16]⟩ 32) (v : Vec F ⟨1, ![16]⟩ .f32)
    (h : ∀ a y, ((![v0, v1] : Fin 2 → IVec ⟨1, ![16]⟩ 32) a y).toNat < (⟨2, ![64, 3]⟩ : Shape).size a)
    (h0 : ∀ l : Fin 16, (v0 (ix1 l)).toNat = 16 * j + l.val) (h1 : ∀ l : Fin 16, (v1 (ix1 l)).toNat = c)
    (hv : ∀ l : Fin 16, v (ix1 l) = FloatOps.mulf (cumAt A c (16 * j + l.val) 16) (FloatOps.divf oneF (FloatOps.maximumf (cumAt A 3 (16 * j + l.val) 16) oneF))) :
    Done A (n + 1) (storeIdx (e := .f32) g (![v0, v1] : Fin 2 → IVec ⟨1, ![16]⟩ 32) v (fun _ => 1#1) false h) := by
  have hof : ∀ l : Fin 16, (Shape.ofLane (d := ![16]) l : (⟨1, ![16]⟩ : Shape).Idx) = ix1 l := fun l => by
    funext a; obtain rfl : a = 0 := Subsingleton.elim _ _; rfl
  have hat0 : ∀ l : Fin 16, ((idxAt (s := ⟨2, ![64, 3]⟩) (![v0, v1] : Fin 2 → IVec ⟨1, ![16]⟩ 32) h (Shape.ofLane (d := ![16]) l)) 0).val = 16 * j + l.val :=
    fun l => by rw [← h0 l, ← hof l]; rfl
  have hat1 : ∀ l : Fin 16, ((idxAt (s := ⟨2, ![64, 3]⟩) (![v0, v1] : Fin 2 → IVec ⟨1, ![16]⟩ 32) h (Shape.ofLane (d := ![16]) l)) 1).val = c :=
    fun l => by rw [← h1 l, ← hof l]; rfl
  have hinj : Function.Injective fun k : Fin 16 => idxAt (s := ⟨2, ![64, 3]⟩) (![v0, v1] : Fin 2 → IVec ⟨1, ![16]⟩ 32) h (Shape.ofLane (d := ![16]) k) := by
    intro k k' hk
    have := congrArg (fun j : (⟨2, ![64, 3]⟩ : Shape).Idx => (j 0).val) hk
    dsimp only at this
    rw [hat0, hat0] at this
    exact Fin.ext (by omega)
  intro y hy
  by_cases hl : ∃ l : Fin 16, idxAt (s := ⟨2, ![64, 3]⟩) (![v0, v1] : Fin 2 → IVec ⟨1, ![16]⟩ 32) h (Shape.ofLane (d := ![16]) l) = y
  · obtain ⟨l, rfl⟩ := hl
    rw [storeIdx_hit (e := .f32) (d := ![16]) g _ v false h hinj l, if_neg (by decide), hof l, hv l, ← hof l]
    unfold meanOf
    rw [hat0, hat1]
  · rw [storeIdx_miss (e := .f32) (d := ![16]) g _ v false h y fun k hk => hl ⟨k, hk⟩]
    refine hg y (lt_of_le_of_ne (by omega) fun he => hl ?_)
    have hy0 : (y 0).val < 64 := (y 0).isLt
    have hy1 : (y 1).val < 3 := (y 1).isLt
    refine ⟨⟨(y 0).val % 16, by omega⟩, ?_⟩
    funext a
    apply Fin.ext
    match a with
    | 0 => rw [hat0]; dsimp only; omega
    | 1 => rw [hat1]; omega

/-- Row `r` of the labels and of the values, and the whole result: row by row the row of means. -/
def segRow (fg : Vec F ⟨2, ![32, 4096]⟩ .i32) (r : Fin 32) : Seg F := fun j => fg (ix2 r (j 0))
def pixRow (fx : Vec F ⟨3, ![32, 3, 4096]⟩ .f32) (r : Fin 32) : Pix F := fun j => fx (ix3 r (j 0) (j 1))
def outAll (fx : Vec F ⟨3, ![32, 3, 4096]⟩ .f32) (fg : Vec F ⟨2, ![32, 4096]⟩ .i32) : Vec F ⟨3, ![32, 64, 3]⟩ .f32 := fun y =>
  rowMeans (segRow fg (y 0)) (pixRow fx (y 0)) (ix2 (y 1) (y 2))

end Cert.Proof
-- ==== Proof.Ideal.Parts.lean ====
/- The tile's finalisation, part by part: sums over the lanes of the accumulators, the reciprocal of the counts, and
   the means scattered into the tile's result. -/
module

public import proofs.«01_k».proof.Defs
public import proofs.«01_k».proof.Proof.Spec
public import Idealize.ShloMosaic.Lib.Pointwise
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Ki

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The resource algebra: the handshakes' rounds, the pipeline's rounds, the transfers' counters -/

abbrev UH : Type := URounds (GSem nD τ sig) ℕ
abbrev UP : Type := URounds (GSem nD τ sig) Unit
abbrev UU : Type := (UH × UP) × Counters

local notation "𝕄" => MT nD τ sig (HIx 1) (Elt F) ℕ UU ℕ

abbrev 𝒱₀ : Variants := Variants.none

/-! ## The tile's memrefs and threads -/

local notation "xM" => (Memref.whole Cert.KernelIdeal.main_v4_scv : Memref Cert.KernelIdeal.sig Kind.scVector Space.hbm Cert.KernelIdeal.S32x3x4096 EltTy.f32)
local notation "gM" => (Memref.whole Cert.KernelIdeal.main_arg1_scv : Memref Cert.KernelIdeal.sig Kind.scVector Space.hbm Cert.KernelIdeal.S32x4096 EltTy.i32)
local notation "oM" => (Memref.whole Cert.KernelIdeal.main_v5_scv : Memref Cert.KernelIdeal.sig Kind.scVector Space.hbm Cert.KernelIdeal.S32x64x3 EltTy.f32)
local notation "segM" => (Memref.whole Cert.KernelIdeal.cc1_scratch0 : Memref Cert.KernelIdeal.sig Kind.scVector Space.vmem Cert.KernelIdeal.S4096 EltTy.i32)
local notation "pixM" => (Memref.whole Cert.KernelIdeal.cc1_scratch1 : Memref Cert.KernelIdeal.sig Kind.scVector Space.vmem Cert.KernelIdeal.S3x4096 EltTy.f32)
local notation "accM" => (Memref.whole Cert.KernelIdeal.cc1_scratch2 : Memref Cert.KernelIdeal.sig Kind.scVector Space.vmem Cert.KernelIdeal.S4096 EltTy.f32)
local notation "resM" => (Memref.whole Cert.KernelIdeal.cc1_scratch3 : Memref Cert.KernelIdeal.sig Kind.scVector Space.vmem Cert.KernelIdeal.S64x3 EltTy.f32)

abbrev cV (L : grid1.Coords) : Fin τ.nSC := (L 0).castLE hcore1
abbrev jV (L : grid1.Coords) : Fin τ.nSub := (L 1).castLE hsub1
abbrev tileT (d : Dev nD) (L : grid1.Coords) : Thread nD τ := V d (cV L) (jV L)

variable [FloatOps F] (d : Dev nD) (L : grid1.Coords)

/-- The accumulators' scratch holding `A`; the result's scratch holding `g`. -/
abbrev accP (d : Dev nD) (L : grid1.Coords) (A : Acc F) : sProp 𝕄 := (accM).view.loc (tileT d L) ↦{fullShare} A
abbrev resP (d : Dev nD) (L : grid1.Coords) (g : Vec F S64x3 .f32) : sProp 𝕄 := (resM).view.loc (tileT d L) ↦{fullShare} g

/-- Sixteen accumulators from place `k` on. -/
def ldV (A : Acc F) (k : ℕ) : Vec F S16 .f32 := fun x => A (place (k + (x 0).val))

/-- A load of sixteen accumulators from a place reads those sixteen. -/
theorem ld_eq (A : Acc F) (k : ℕ) (h : ∀ a, (![k] : Fin 1 → ℕ) a + (![16] : Fin 1 → ℕ) a ≤ S4096.size a) :
    View.readAt (Elt F) (View.whole cc1_scratch2) (Rect.unit (s := S4096) ![k] ![16] h).toLoadRect A = ldV A k := by
  funext x
  have hk : k + 16 ≤ 4096 := h 0
  have hx : (x 0).val < 16 := (x 0).isLt
  unfold ldV
  refine congrArg A (funext fun (a : Fin 1) => Fin.ext ?_)
  rw [place_val (by omega)]
  obtain rfl : a = 0 := Subsingleton.elim _ _
  show k + 1 * (x 0).val = _
  omega

/-- The first `n` lanes' sums of channel `c` at labels `16 j` to `16 j + 15`. -/
def cumV (A : Acc F) (c j : ℕ) : ℕ → FVec F S16 .f32
  | 0 => k1_pay2
  | n + 1 => addf (cumV A c j n) (ldV A (1024 * c + 64 * n + 16 * j))

/-- The counts of labels `16 j` to `16 j + 15`, at least one; their reciprocals. -/
def cntV (A : Acc F) (j : ℕ) : FVec F S16 .f32 := maximumf (cumV A 3 j 16) k1_pay3
def rcpV (A : Acc F) (j : ℕ) : FVec F S16 .f32 := divf k1_pay3 (cntV A j)

/-- The lanes' numbers; the labels `16 j` to `16 j + 15`. -/
abbrev lanesV : IVec S16 32 := iota .scVector S16 32 [0] iota_S16_d0_w32_scVector
def rowsV (j : ℕ) : IVec S16 32 := addi (broadcast S16 (BitVec.ofNat 32 (16 * j))) lanesV

/-- The labels `16 j` to `16 j + 15` and the channel number, lane by lane. -/
theorem rowsV_apply (j : ℕ) (hj : j < 4) (l : Fin 16) : (rowsV j (ix1 l)).toNat = 16 * j + l.val := by
  have hl := l.isLt
  have e : rowsV j (ix1 l) = BitVec.ofNat 32 (16 * j) + BitVec.ofNat 32 l.val := by
    unfold rowsV; pointwise; rfl
  rw [e, BitVec.toNat_add, BitVec.toNat_ofNat, BitVec.toNat_ofNat]
  omega

/-- The labels and the channel name a place of the result. -/
theorem chk (j c : ℕ) (hj : j < 4) (hc : c < 3) :
    ∀ a x, ((![rowsV j, broadcast S16 (BitVec.ofNat 32 c)] : Fin 2 → IVec S16 32) a x).toNat < S64x3.size a := by
  intro a x
  obtain ⟨l, rfl⟩ : ∃ l : Fin 16, x = ix1 l := ⟨x 0, eq_ix1 x⟩
  match a with
  | 0 => have := rowsV_apply j hj l; have := l.isLt; show (rowsV j (ix1 l)).toNat < 64; omega
  | 1 => show (BitVec.ofNat 32 c).toNat < 3; rw [BitVec.toNat_ofNat]; omega

/-- A sum over lanes at one label. -/
theorem cumV_apply (A : Acc F) (c j : ℕ) (l : Fin 16) : ∀ n, cumV A c j n (ix1 l) = cumAt A c (16 * j + l.val) n
  | 0 => rfl
  | n + 1 => by
    show FloatOps.addf (cumV A c j n (ix1 l)) (ldV A (1024 * c + 64 * n + 16 * j) (ix1 l)) = FloatOps.addf _ _
    rw [cumV_apply A c j l n]
    unfold ldV
    congr 3
    show 1024 * c + 64 * n + 16 * j + l.val = _
    omega

/-- The result's scratch through the rectangle a scatter stores at, the whole of it. -/
theorem res_open (g : Vec F S64x3 .f32) :
    resP d L g = iprop(((resM).access (.whole S64x3)).loc (tileT d L) ↦[((resM).access (.whole S64x3)).set]{fullShare} g) := by
  rw [show ((resM).access (.whole S64x3)).set = Finset.univ from Memref.set_access_whole (cc1_scratch3 : Ref sig .scVector)]

/-- A store over the whole of the scratch for the means leaves what was stored. -/
theorem res_write (g w : Vec F S64x3 .f32) :
    iprop(((resM).access (.whole S64x3)).loc (tileT d L) ↦[((resM).access (.whole S64x3)).set]{fullShare} ((resM).access (.whole S64x3)).write (Elt F) g w Finset.univ)
      = resP d L w := by
  rw [show ((resM).access (.whole S64x3)).set = Finset.univ from Memref.set_access_whole (cc1_scratch3 : Ref sig .scVector),
    show ((resM).access (.whole S64x3)).write (Elt F) g w Finset.univ = w from Memref.write_access_whole_univ (Elt F) (cc1_scratch3 : Ref sig .scVector) g w]

/-- One scatter of sixteen means of channel `c` into the result's scratch. -/
theorem scatter_step {α : Type} {Q : α → sProp 𝕄} (A : Acc F) (g : Vec F S64x3 .f32) (n j c : ℕ) (hg : Done A n g) (hj : j < 4) (hc : c < 3) (hn : n = 3 * j + c)
    (v0 v1 : IVec S16 32) (h0 : v0 = rowsV j) (h1 : v1 = broadcast S16 (BitVec.ofNat 32 c)) (v : Vec F S16 .f32) (hv : v = mulf (cumV A c j 16) (rcpV A j))
    (h : ∀ a x, ((![v0, v1] : Fin 2 → IVec S16 32) a x).toNat < S64x3.size a) (hs : ((resM).access (.whole S64x3)).Stores Finset.univ)
    (k : PUnit → Prog (TpuEff nD τ sig (Elt F) Λ₀ (tileT d L).2) α) :
    resP d L g ⊢ iprop((∀ g', ⌜Done A (n + 1) g'⌝ -∗ resP d L g' -∗ wp frame (wpE (defs₀ (F := F)) 𝒱₀ (tileT d L) none) Set.univ (k ⟨⟩) Q)
      -∗ wp frame (wpE (defs₀ (F := F)) 𝒱₀ (tileT d L) none) Set.univ (SparseCore.vectorStoreIdx resM ![v0, v1] v (fun _ => 1#1) false h hs >>= k) Q) := by
  subst h0 h1 hv
  have hd : Done A (n + 1) (storeIdx (e := .f32) (((resM).access (.whole S64x3)).read (Elt F) g) ![rowsV j, broadcast S16 (BitVec.ofNat 32 c)]
      (mulf (cumV A c j 16) (rcpV A j)) (fun _ => 1#1) false h) := by
    rw [show ((resM).access (.whole S64x3)).read (Elt F) g = g from Memref.read_access_whole (Elt F) (cc1_scratch3 : Ref sig .scVector) g]
    refine hg.step j c hj hc hn _ _ _ _ (fun l => rowsV_apply j hj l) (fun l => ?_) fun l => ?_
    · show (BitVec.ofNat 32 c).toNat = c
      rw [BitVec.toNat_ofNat]; omega
    · rw [← cumV_apply, ← cumV_apply]; rfl
  iintro HG Hk
  ihave HG' := (Entails.of_eq (res_open d L g)) $$ HG
  iapply (SparseCore.wp_vectorStoreIdx 𝒱₀ (tileT d L) none Set.univ (base := resM)) $$ HG'
  iintro HG
  ihave HG' := (Entails.of_eq (res_write d L g _)) $$ HG
  iapply Hk $$ %_ %hd HG'

variable (x2 : Memref sig .scVector .hbm S32x3x4096 .f32) (h2 : x2.IsWhole) (x3 : Memref sig .scVector .hbm S32x4096 .i32) (h3 : x3.IsWhole)
  (x4 : Memref sig .scVector .hbm S32x64x3 .f32) (h4 : x4.IsWhole) (x5 : Memref sig .scVector .vmem S4096 .i32) (h5 : x5.IsWhole)
  (x6 : Memref sig .scVector .vmem S3x4096 .f32) (h6 : x6.IsWhole) (a0 a1 a2 : DmaSems sig S_)

/-- Part 2: the reciprocals of the counts of labels 0 to 15, and the first lanes of the next sum. -/
theorem part2 (A : Acc F) :
    accP d L A ⊢ wp frame (wpE (defs₀ (F := F)) 𝒱₀ (tileT d L) none) Set.univ
      (k1_part2 L x2 h2 x3 h3 x4 h4 x5 h5 x6 h6 accM (Memref.isWhole_whole _) resM (Memref.isWhole_whole _) a0 a1 a2 lanesV k1_pay2 (cumV A 3 0 1))
      fun r => iprop(⌜r = ⟨rcpV A 0, rowsV 0, cumV A 0 0 2⟩⌝ ∗ accP d L A) := by
  rw [k1_part2_eq_skeleton]; unfold k1_part2_skel
  iintro HA
  sl_exec
  sl_step
  isplitr
  · ipureintro; simp only [ld_eq, k1_pay13, k1_pay14, k1_pay15, rcpV, cntV, cumV, k1_pay2, k1_pay3, rowsV, Nat.reduceMul, Nat.reduceAdd]
  · iexact HA

/-- Part 3: the means of channel 0 at labels 0 to 15, and the first lanes of the next sum. -/
theorem part3 (A : Acc F) (g : Vec F S64x3 .f32) (hg : Done A 0 g) :
    iprop(accP d L A ∗ resP d L g) ⊢ wp frame (wpE (defs₀ (F := F)) 𝒱₀ (tileT d L) none) Set.univ
      (k1_part3 L x2 h2 x3 h3 x4 h4 x5 h5 x6 h6 accM (Memref.isWhole_whole _) resM (Memref.isWhole_whole _) a0 a1 a2 k1_pay2 (rcpV A 0) (rowsV 0) (cumV A 0 0 2))
      fun r => iprop(⌜r = ⟨cumV A 1 0 4, ldV A 1280⟩⌝ ∗ accP d L A ∗ ∃ g, ⌜Done A 1 g⌝ ∗ resP d L g) := by
  rw [k1_part3_eq_skeleton]; unfold k1_part3_skel
  iintro ⟨HA, HG⟩
  have hchk : k1_chk5 (rowsV 0) (broadcast S16 0#32) := chk 0 0 (by decide) (by decide)
  sl_exec
  iapply (scatter_step d L A g 0 0 0 hg (by decide) (by decide) rfl _ _ rfl rfl _ ?hv) $$ HG
  case hv => simp only [ld_eq, k1_pay16, cumV, Nat.reduceMul, Nat.reduceAdd]
  iintro %g1 %hg1 HG
  sl_exec
  sl_step
  isplitr
  · ipureintro; simp only [ld_eq, k1_pay17, cumV, Nat.reduceMul, Nat.reduceAdd]
  isplitl [HA]
  · iexact HA
  iexists g1; isplitr
  · ipureintro; exact hg1
  · iexact HG

/-- Part 4: the means of channel 1 at labels 0 to 15, and the first lanes of the next sum. -/
theorem part4 (A : Acc F) (g : Vec F S64x3 .f32) (hg : Done A 1 g) :
    iprop(accP d L A ∗ resP d L g) ⊢ wp frame (wpE (defs₀ (F := F)) 𝒱₀ (tileT d L) none) Set.univ
      (k1_part4 L x2 h2 x3 h3 x4 h4 x5 h5 x6 h6 accM (Memref.isWhole_whole _) resM (Memref.isWhole_whole _) a0 a1 a2 k1_pay2 (rcpV A 0) (rowsV 0) (cumV A 1 0 4) (ldV A 1280))
      fun r => iprop(⌜r = cumV A 2 0 7⌝ ∗ accP d L A ∗ ∃ g, ⌜Done A 2 g⌝ ∗ resP d L g) := by
  rw [k1_part4_eq_skeleton]; unfold k1_part4_skel
  iintro ⟨HA, HG⟩
  have hchk : k1_chk6 (rowsV 0) (broadcast S16 1#32) := chk 0 1 (by decide) (by decide)
  sl_exec
  iapply (scatter_step d L A g 1 0 1 hg (by decide) (by decide) rfl _ _ rfl rfl _ ?hv) $$ HG
  case hv => simp only [ld_eq, k1_pay18, cumV, Nat.reduceMul, Nat.reduceAdd]
  iintro %g1 %hg1 HG
  sl_exec
  sl_step
  isplitr
  · ipureintro; simp only [ld_eq, k1_pay19, cumV, Nat.reduceMul, Nat.reduceAdd]
  isplitl [HA]
  · iexact HA
  iexists g1; isplitr
  · ipureintro; exact hg1
  · iexact HG

/-- Part 5: the means of channel 2 at labels 0 to 15, and the first lanes of the next sum. -/
theorem part5 (A : Acc F) (g : Vec F S64x3 .f32) (hg : Done A 2 g) :
    iprop(accP d L A ∗ resP d L g) ⊢ wp frame (wpE (defs₀ (F := F)) 𝒱₀ (tileT d L) none) Set.univ
      (k1_part5 L x2 h2 x3 h3 x4 h4 x5 h5 x6 h6 accM (Memref.isWhole_whole _) resM (Memref.isWhole_whole _) a0 a1 a2 k1_pay2 (rcpV A 0) (rowsV 0) (cumV A 2 0 7))
      fun r => iprop(⌜r = cumV A 3 1 9⌝ ∗ accP d L A ∗ ∃ g, ⌜Done A 3 g⌝ ∗ resP d L g) := by
  rw [k1_part5_eq_skeleton]; unfold k1_part5_skel
  iintro ⟨HA, HG⟩
  have hchk : k1_chk7 (rowsV 0) (broadcast S16 2#32) := chk 0 2 (by decide) (by decide)
  sl_exec
  iapply (scatter_step d L A g 2 0 2 hg (by decide) (by decide) rfl _ _ rfl rfl _ ?hv) $$ HG
  case hv => simp only [ld_eq, k1_pay20, cumV, Nat.reduceMul, Nat.reduceAdd]
  iintro %g1 %hg1 HG
  sl_exec
  sl_step
  isplitr
  · ipureintro; simp only [ld_eq, k1_pay21, cumV, Nat.reduceMul, Nat.reduceAdd]
  isplitl [HA]
  · iexact HA
  iexists g1; isplitr
  · ipureintro; exact hg1
  · iexact HG

/-- Part 6: the reciprocals of the counts of labels 16 to 31, and the first lanes of the next sum. -/
theorem part6 (A : Acc F) :
    accP d L A ⊢ wp frame (wpE (defs₀ (F := F)) 𝒱₀ (tileT d L) none) Set.univ
      (k1_part6 L x2 h2 x3 h3 x4 h4 x5 h5 x6 h6 accM (Memref.isWhole_whole _) resM (Memref.isWhole_whole _) a0 a1 a2 lanesV k1_pay2 (cumV A 3 1 9))
      fun r => iprop(⌜r = ⟨rcpV A 1, rowsV 1, cumV A 0 1 10⟩⌝ ∗ accP d L A) := by
  rw [k1_part6_eq_skeleton]; unfold k1_part6_skel
  iintro HA
  sl_exec
  sl_step
  isplitr
  · ipureintro; simp only [ld_eq, k1_pay22, k1_pay23, k1_pay24, rcpV, cntV, cumV, k1_pay2, k1_pay3, rowsV, Nat.reduceMul, Nat.reduceAdd]
  · iexact HA

/-- Part 7: the means of channel 0 at labels 16 to 31, and the first lanes of the next sum. -/
theorem part7 (A : Acc F) (g : Vec F S64x3 .f32) (hg : Done A 3 g) :
    iprop(accP d L A ∗ resP d L g) ⊢ wp frame (wpE (defs₀ (F := F)) 𝒱₀ (tileT d L) none) Set.univ
      (k1_part7 L x2 h2 x3 h3 x4 h4 x5 h5 x6 h6 accM (Memref.isWhole_whole _) resM (Memref.isWhole_whole _) a0 a1 a2 k1_pay2 (rcpV A 1) (rowsV 1) (cumV A 0 1 10))
      fun r => iprop(⌜r = ⟨cumV A 1 1 12, ldV A 1808⟩⌝ ∗ accP d L A ∗ ∃ g, ⌜Done A 4 g⌝ ∗ resP d L g) := by
  rw [k1_part7_eq_skeleton]; unfold k1_part7_skel
  iintro ⟨HA, HG⟩
  have hchk : k1_chk8 (rowsV 1) (broadcast S16 0#32) := chk 1 0 (by decide) (by decide)
  sl_exec
  iapply (scatter_step d L A g 3 1 0 hg (by decide) (by decide) rfl _ _ rfl rfl _ ?hv) $$ HG
  case hv => simp only [ld_eq, k1_pay25, cumV, Nat.reduceMul, Nat.reduceAdd]
  iintro %g1 %hg1 HG
  sl_exec
  sl_step
  isplitr
  · ipureintro; simp only [ld_eq, k1_pay26, cumV, Nat.reduceMul, Nat.reduceAdd]
  isplitl [HA]
  · iexact HA
  iexists g1; isplitr
  · ipureintro; exact hg1
  · iexact HG

/-- Part 8: the means of channel 1 at labels 16 to 31, and the first lanes of the next sum. -/
theorem part8 (A : Acc F) (g : Vec F S64x3 .f32) (hg : Done A 4 g) :
    iprop(accP d L A ∗ resP d L g) ⊢ wp frame (wpE (defs₀ (F := F)) 𝒱₀ (tileT d L) none) Set.univ
      (k1_part8 L x2 h2 x3 h3 x4 h4 x5 h5 x6 h6 accM (Memref.isWhole_whole _) resM (Memref.isWhole_whole _) a0 a1 a2 k1_pay2 (rcpV A 1) (rowsV 1) (cumV A 1 1 12) (ldV A 1808))
      fun r => iprop(⌜r = cumV A 2 1 15⌝ ∗ accP d L A ∗ ∃ g, ⌜Done A 5 g⌝ ∗ resP d L g) := by
  rw [k1_part8_eq_skeleton]; unfold k1_part8_skel
  iintro ⟨HA, HG⟩
  have hchk : k1_chk9 (rowsV 1) (broadcast S16 1#32) := chk 1 1 (by decide) (by decide)
  sl_exec
  iapply (scatter_step d L A g 4 1 1 hg (by decide) (by decide) rfl _ _ rfl rfl _ ?hv) $$ HG
  case hv => simp only [ld_eq, k1_pay27, cumV, Nat.reduceMul, Nat.reduceAdd]
  iintro %g1 %hg1 HG
  sl_exec
  sl_step
  isplitr
  · ipureintro; simp only [ld_eq, k1_pay28, cumV, Nat.reduceMul, Nat.reduceAdd]
  isplitl [HA]
  · iexact HA
  iexists g1; isplitr
  · ipureintro; exact hg1
  · iexact HG

/-- Part 9: the means of channel 2 at labels 16 to 31, and the first lanes of the next sum. -/
theorem part9 (A : Acc F) (g : Vec F S64x3 .f32) (hg : Done A 5 g) :
    iprop(accP d L A ∗ resP d L g) ⊢ wp frame (wpE (defs₀ (F := F)) 𝒱₀ (tileT d L) none) Set.univ
      (k1_part9 L x2 h2 x3 h3 x4 h4 x5 h5 x6 h6 accM (Memref.isWhole_whole _) resM (Memref.isWhole_whole _) a0 a1 a2 k1_pay2 (rcpV A 1) (rowsV 1) (cumV A 2 1 15))
      fun r => iprop(⌜r = ⟨cntV A 2, oneF⟩⌝ ∗ accP d L A ∗ ∃ g, ⌜Done A 6 g⌝ ∗ resP d L g) := by
  rw [k1_part9_eq_skeleton]; unfold k1_part9_skel
  iintro ⟨HA, HG⟩
  have hchk : k1_chk10 (rowsV 1) (broadcast S16 2#32) := chk 1 2 (by decide) (by decide)
  sl_exec
  iapply (scatter_step d L A g 5 1 2 hg (by decide) (by decide) rfl _ _ rfl rfl _ ?hv) $$ HG
  case hv => simp only [ld_eq, k1_pay29, cumV, Nat.reduceMul, Nat.reduceAdd]
  iintro %g1 %hg1 HG
  sl_exec
  sl_step
  isplitr
  · ipureintro; simp only [ld_eq, k1_pay30, cntV, k1_pay3, cumV, Nat.reduceMul, Nat.reduceAdd]; rfl
  isplitl [HA]
  · iexact HA
  iexists g1; isplitr
  · ipureintro; exact hg1
  · iexact HG

/-- Part 10: the means of channel 0 at labels 32 to 47, and the first lanes of the next sum. -/
theorem part10 (A : Acc F) (g : Vec F S64x3 .f32) (hg : Done A 6 g) :
    iprop(accP d L A ∗ resP d L g) ⊢ wp frame (wpE (defs₀ (F := F)) 𝒱₀ (tileT d L) none) Set.univ
      (k1_part10 L x2 h2 x3 h3 x4 h4 x5 h5 x6 h6 accM (Memref.isWhole_whole _) resM (Memref.isWhole_whole _) a0 a1 a2 lanesV k1_pay2 (cntV A 2) oneF)
      fun r => iprop(⌜r = ⟨rcpV A 2, rowsV 2, ldV A 1056⟩⌝ ∗ accP d L A ∗ ∃ g, ⌜Done A 7 g⌝ ∗ resP d L g) := by
  rw [k1_part10_eq_skeleton]; unfold k1_part10_skel
  iintro ⟨HA, HG⟩
  have hchk : k1_chk11 (k1_pay32 lanesV) (broadcast S16 0#32) := chk 2 0 (by decide) (by decide)
  sl_exec
  iapply (scatter_step d L A g 6 2 0 hg (by decide) (by decide) rfl _ _ rfl rfl _ ?hv) $$ HG
  case hv => simp only [ld_eq, k1_pay33, k1_pay31, rcpV, k1_pay3, cumV, Nat.reduceMul, Nat.reduceAdd]
  iintro %g1 %hg1 HG
  sl_exec
  sl_step
  isplitr
  · ipureintro; simp only [ld_eq, k1_pay31, k1_pay32, rcpV, rowsV, k1_pay3, cumV, Nat.reduceMul, Nat.reduceAdd]
  isplitl [HA]
  · iexact HA
  iexists g1; isplitr
  · ipureintro; exact hg1
  · iexact HG

/-- Part 11: the means of channel 1 at labels 32 to 47, and the first lanes of the next sum. -/
theorem part11 (A : Acc F) (g : Vec F S64x3 .f32) (hg : Done A 7 g) :
    iprop(accP d L A ∗ resP d L g) ⊢ wp frame (wpE (defs₀ (F := F)) 𝒱₀ (tileT d L) none) Set.univ
      (k1_part11 L x2 h2 x3 h3 x4 h4 x5 h5 x6 h6 accM (Memref.isWhole_whole _) resM (Memref.isWhole_whole _) a0 a1 a2 k1_pay2 (rcpV A 2) (rowsV 2) (ldV A 1056))
      fun r => iprop(⌜r = cumV A 2 2 3⌝ ∗ accP d L A ∗ ∃ g, ⌜Done A 8 g⌝ ∗ resP d L g) := by
  rw [k1_part11_eq_skeleton]; unfold k1_part11_skel
  iintro ⟨HA, HG⟩
  have hchk : k1_chk12 (rowsV 2) (broadcast S16 1#32) := chk 2 1 (by decide) (by decide)
  sl_exec
  iapply (scatter_step d L A g 7 2 1 hg (by decide) (by decide) rfl _ _ rfl rfl _ ?hv) $$ HG
  case hv => simp only [ld_eq, k1_pay34, cumV, Nat.reduceMul, Nat.reduceAdd]
  iintro %g1 %hg1 HG
  sl_exec
  sl_step
  isplitr
  · ipureintro; simp only [ld_eq, k1_pay35, cumV, Nat.reduceMul, Nat.reduceAdd]
  isplitl [HA]
  · iexact HA
  iexists g1; isplitr
  · ipureintro; exact hg1
  · iexact HG

/-- Part 12: the means of channel 2 at labels 32 to 47, and the first lanes of the next sum. -/
theorem part12 (A : Acc F) (g : Vec F S64x3 .f32) (hg : Done A 8 g) :
    iprop(accP d L A ∗ resP d L g) ⊢ wp frame (wpE (defs₀ (F := F)) 𝒱₀ (tileT d L) none) Set.univ
      (k1_part12 L x2 h2 x3 h3 x4 h4 x5 h5 x6 h6 accM (Memref.isWhole_whole _) resM (Memref.isWhole_whole _) a0 a1 a2 k1_pay2 (rcpV A 2) (rowsV 2) (cumV A 2 2 3))
      fun r => iprop(⌜r = cumV A 3 3 5⌝ ∗ accP d L A ∗ ∃ g, ⌜Done A 9 g⌝ ∗ resP d L g) := by
  rw [k1_part12_eq_skeleton]; unfold k1_part12_skel
  iintro ⟨HA, HG⟩
  have hchk : k1_chk13 (rowsV 2) (broadcast S16 2#32) := chk 2 2 (by decide) (by decide)
  sl_exec
  iapply (scatter_step d L A g 8 2 2 hg (by decide) (by decide) rfl _ _ rfl rfl _ ?hv) $$ HG
  case hv => simp only [ld_eq, k1_pay36, cumV, Nat.reduceMul, Nat.reduceAdd]
  iintro %g1 %hg1 HG
  sl_exec
  sl_step
  isplitr
  · ipureintro; simp only [ld_eq, k1_pay37, cumV, Nat.reduceMul, Nat.reduceAdd]
  isplitl [HA]
  · iexact HA
  iexists g1; isplitr
  · ipureintro; exact hg1
  · iexact HG

/-- Part 13: the reciprocals of the counts of labels 48 to 63, and the first lanes of the next sum. -/
theorem part13 (A : Acc F) :
    accP d L A ⊢ wp frame (wpE (defs₀ (F := F)) 𝒱₀ (tileT d L) none) Set.univ
      (k1_part13 L x2 h2 x3 h3 x4 h4 x5 h5 x6 h6 accM (Memref.isWhole_whole _) resM (Memref.isWhole_whole _) a0 a1 a2 lanesV k1_pay2 (cumV A 3 3 5))
      fun r => iprop(⌜r = ⟨rcpV A 3, rowsV 3, cumV A 0 3 6⟩⌝ ∗ accP d L A) := by
  rw [k1_part13_eq_skeleton]; unfold k1_part13_skel
  iintro HA
  sl_exec
  sl_step
  isplitr
  · ipureintro; simp only [ld_eq, k1_pay38, k1_pay39, k1_pay40, rcpV, cntV, cumV, k1_pay2, k1_pay3, rowsV, Nat.reduceMul, Nat.reduceAdd]
  · iexact HA

/-- Part 14: the means of channel 0 at labels 48 to 63, and the first lanes of the next sum. -/
theorem part14 (A : Acc F) (g : Vec F S64x3 .f32) (hg : Done A 9 g) :
    iprop(accP d L A ∗ resP d L g) ⊢ wp frame (wpE (defs₀ (F := F)) 𝒱₀ (tileT d L) none) Set.univ
      (k1_part14 L x2 h2 x3 h3 x4 h4 x5 h5 x6 h6 accM (Memref.isWhole_whole _) resM (Memref.isWhole_whole _) a0 a1 a2 k1_pay2 (rcpV A 3) (rowsV 3) (cumV A 0 3 6))
      fun r => iprop(⌜r = ⟨cumV A 1 3 8, ldV A 1584⟩⌝ ∗ accP d L A ∗ ∃ g, ⌜Done A 10 g⌝ ∗ resP d L g) := by
  rw [k1_part14_eq_skeleton]; unfold k1_part14_skel
  iintro ⟨HA, HG⟩
  have hchk : k1_chk14 (rowsV 3) (broadcast S16 0#32) := chk 3 0 (by decide) (by decide)
  sl_exec
  iapply (scatter_step d L A g 9 3 0 hg (by decide) (by decide) rfl _ _ rfl rfl _ ?hv) $$ HG
  case hv => simp only [ld_eq, k1_pay41, cumV, Nat.reduceMul, Nat.reduceAdd]
  iintro %g1 %hg1 HG
  sl_exec
  sl_step
  isplitr
  · ipureintro; simp only [ld_eq, k1_pay42, cumV, Nat.reduceMul, Nat.reduceAdd]
  isplitl [HA]
  · iexact HA
  iexists g1; isplitr
  · ipureintro; exact hg1
  · iexact HG

/-- Part 15: the means of channel 1 at labels 48 to 63, and the first lanes of the next sum. -/
theorem part15 (A : Acc F) (g : Vec F S64x3 .f32) (hg : Done A 10 g) :
    iprop(accP d L A ∗ resP d L g) ⊢ wp frame (wpE (defs₀ (F := F)) 𝒱₀ (tileT d L) none) Set.univ
      (k1_part15 L x2 h2 x3 h3 x4 h4 x5 h5 x6 h6 accM (Memref.isWhole_whole _) resM (Memref.isWhole_whole _) a0 a1 a2 k1_pay2 (rcpV A 3) (rowsV 3) (cumV A 1 3 8) (ldV A 1584))
      fun r => iprop(⌜r = cumV A 2 3 11⌝ ∗ accP d L A ∗ ∃ g, ⌜Done A 11 g⌝ ∗ resP d L g) := by
  rw [k1_part15_eq_skeleton]; unfold k1_part15_skel
  iintro ⟨HA, HG⟩
  have hchk : k1_chk15 (rowsV 3) (broadcast S16 1#32) := chk 3 1 (by decide) (by decide)
  sl_exec
  iapply (scatter_step d L A g 10 3 1 hg (by decide) (by decide) rfl _ _ rfl rfl _ ?hv) $$ HG
  case hv => simp only [ld_eq, k1_pay43, cumV, Nat.reduceMul, Nat.reduceAdd]
  iintro %g1 %hg1 HG
  sl_exec
  sl_step
  isplitr
  · ipureintro; simp only [ld_eq, k1_pay44, cumV, Nat.reduceMul, Nat.reduceAdd]
  isplitl [HA]
  · iexact HA
  iexists g1; isplitr
  · ipureintro; exact hg1
  · iexact HG

end Cert.Proof.Ki
-- ==== Proof.Ideal.Loops.lean ====
/- The tile's two loops: the accumulators set to zero, and the pixels scattered into them. -/
module

public import proofs.«01_k».proof.Proof.Ideal.Parts
public import Idealize.ShloMosaic.Lib.WritesUnit

@[expose] public section

noncomputable section

namespace Cert.Proof.Ki

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "segM" => (Memref.whole Cert.KernelIdeal.cc1_scratch0 : Memref Cert.KernelIdeal.sig Kind.scVector Space.vmem Cert.KernelIdeal.S4096 EltTy.i32)
local notation "pixM" => (Memref.whole Cert.KernelIdeal.cc1_scratch1 : Memref Cert.KernelIdeal.sig Kind.scVector Space.vmem Cert.KernelIdeal.S3x4096 EltTy.f32)
local notation "accM" => (Memref.whole Cert.KernelIdeal.cc1_scratch2 : Memref Cert.KernelIdeal.sig Kind.scVector Space.vmem Cert.KernelIdeal.S4096 EltTy.f32)
local notation "resM" => (Memref.whole Cert.KernelIdeal.cc1_scratch3 : Memref Cert.KernelIdeal.sig Kind.scVector Space.vmem Cert.KernelIdeal.S64x3 EltTy.f32)

variable [FloatOps F] (d : Dev nD) (L : grid1.Coords)

/-- The scratch rows of labels and of values. -/
abbrev segP (d : Dev nD) (L : grid1.Coords) (s : Seg F) : sProp 𝕄 := (segM).view.loc (tileT d L) ↦{fullShare} s
abbrev pixP (d : Dev nD) (L : grid1.Coords) (x : Pix F) : sProp 𝕄 := (pixM).view.loc (tileT d L) ↦{fullShare} x

variable (x2 : Memref sig .scVector .hbm S32x3x4096 .f32) (h2 : x2.IsWhole) (x3 : Memref sig .scVector .hbm S32x4096 .i32) (h3 : x3.IsWhole)
  (x4 : Memref sig .scVector .hbm S32x64x3 .f32) (h4 : x4.IsWhole) (a0 a1 a2 : DmaSems sig S_)

/-- One trip of the zero loop: sixteen more accumulators at zero. -/
theorem zero_trip (A : Acc F) (k : Fin k1_t1_loop.trips) (b : BitVec 32) (hA : ∀ j : S4096.Idx, (j 0).val < 16 * k.val → A j = zeroF) :
    accP d L A ⊢ wp frame (wpE (defs₀ (F := F)) 𝒱₀ (tileT d L) none) Set.univ
      (k1_t1_body L x2 h2 x3 h3 x4 h4 segM (Memref.isWhole_whole _) pixM (Memref.isWhole_whole _) accM (Memref.isWhole_whole _) resM (Memref.isWhole_whole _) a0 a1 a2 k b)
      fun _ => iprop(∃ A' : Acc F, ⌜∀ j : S4096.Idx, (j 0).val < 16 * (k.val + 1) → A' j = zeroF⌝ ∗ accP d L A') := by
  unfold k1_t1_body
  iintro HA
  sl_exec
  sl_step
  iexists _
  isplitr
  rotate_left
  · iexact HA
  ipureintro
  intro j hj
  by_cases h : (j 0).val < 16 * k.val
  · exact (View.read_writes_cons_unit_of_not_mem (Memref.whole cc1_scratch2).view A (k1_off3_inb k) _ [] j (k1_off3_eq k) 0 (.inl h)).trans (hA j h)
  · exact View.read_writes_cons_unit_of_mem (Memref.whole cc1_scratch2).view A (k1_off3_inb k) (k1_pay2 (F := F)) [] j
      (ix1 ⟨(j 0).val - 16 * k.val, by omega⟩) (k1_off3_eq k) fun (a : Fin 1) => by
        obtain rfl : a = 0 := Subsingleton.elim _ _
        show (j 0).val = 16 * k.val + ((j 0).val - 16 * k.val)
        omega

/-- The accumulators' scratch through the rectangle a scatter stores at, the whole of it. -/
theorem acc_open (A : Acc F) :
    accP d L A = iprop(((accM).access (.whole S4096)).loc (tileT d L) ↦[((accM).access (.whole S4096)).set]{fullShare} A) := by
  rw [show ((accM).access (.whole S4096)).set = Finset.univ from Memref.set_access_whole (cc1_scratch2 : Ref sig .scVector)]

/-- A store over the whole of the accumulators leaves what was stored. -/
theorem acc_write (A w : Acc F) :
    iprop(((accM).access (.whole S4096)).loc (tileT d L) ↦[((accM).access (.whole S4096)).set]{fullShare} ((accM).access (.whole S4096)).write (Elt F) A w Finset.univ)
      = accP d L w := by
  rw [show ((accM).access (.whole S4096)).set = Finset.univ from Memref.set_access_whole (cc1_scratch2 : Ref sig .scVector),
    show ((accM).access (.whole S4096)).write (Elt F) A w Finset.univ = w from Memref.write_access_whole_univ (Elt F) (cc1_scratch2 : Ref sig .scVector) A w]

/-- One scatter of sixteen pixels of channel `c` into the accumulators. -/
theorem acc_step {α : Type} {Q : α → sProp 𝕄} (s : Seg F) (x : Pix F) (n c : ℕ) (hn : n < 256) (hc : c < 4) (hs : ∀ j, (s j).toNat < 64) (A : Acc F)
    (iv : IVec S16 32) (v : Vec F S16 .f32)
    (hiv : ∀ l : Fin 16, (iv (ix1 l)).toNat = 1024 * c + 64 * l.val + (s (place (16 * n + l.val))).toNat)
    (hv : ∀ l : Fin 16, v (ix1 l) = addend x n c l.val)
    (h : ∀ a x, ((![iv] : Fin 1 → IVec S16 32) a x).toNat < S4096.size a) (hst : ((accM).access (.whole S4096)).Stores Finset.univ)
    (k : PUnit → Prog (TpuEff nD τ sig (Elt F) Λ₀ (tileT d L).2) α) :
    accP d L A ⊢ iprop((accP d L (stepCh s x n c A) -∗ wp frame (wpE (defs₀ (F := F)) 𝒱₀ (tileT d L) none) Set.univ (k ⟨⟩) Q)
      -∗ wp frame (wpE (defs₀ (F := F)) 𝒱₀ (tileT d L) none) Set.univ (SparseCore.vectorStoreIdx accM ![iv] v (fun _ => 1#1) true h hst >>= k) Q) := by
  have hd : storeIdx (e := .f32) (((accM).access (.whole S4096)).read (Elt F) A) ![iv] v (fun _ => 1#1) true h = stepCh s x n c A := by
    rw [show ((accM).access (.whole S4096)).read (Elt F) A = A from Memref.read_access_whole (Elt F) (cc1_scratch2 : Ref sig .scVector) A]
    exact storeIdx_step s x hn hc hs A iv v h hiv hv
  iintro HA Hk
  ihave HA' := (Entails.of_eq (acc_open d L A)) $$ HA
  iapply (SparseCore.wp_vectorStoreIdx 𝒱₀ (tileT d L) none Set.univ (base := accM)) $$ HA'
  iintro HA
  ihave HW := (Entails.of_eq (acc_write d L A _)) $$ HA
  ihave HW' := (Entails.of_eq (congrArg (accP d L) hd)) $$ HW
  iapply Hk $$ HW'

/-- Sixteen labels of a row; sixteen values of a row's channel. -/
theorem seg_ld (s : Seg F) (k : Fin k1_t2_loop.trips) (l : Fin 16) :
    View.readAt (Elt F) (Memref.whole cc1_scratch0).view (Rect.unit (s := S4096) (k1_off4 k) S16.size (k1_off4_inb k)).toLoadRect s (ix1 l) = s (place (16 * k.val + l.val)) := by
  have hk : k.val < 256 := Nat.lt_of_lt_of_le k.isLt k1_t2_abs.2.1
  have hl := l.isLt
  refine congrArg s (funext fun (a : Fin 1) => Fin.ext ?_)
  rw [place_val (by omega)]
  obtain rfl : a = 0 := Subsingleton.elim _ _
  show k1_off4 k 0 + 1 * l.val = _
  rw [k1_off4_eq]
  show 16 * k.val + 1 * l.val = _
  omega

/-- A load of sixteen values of a channel is the sixteen pixels of the trip. -/
theorem pix_ld (x : Pix F) (n c : ℕ) (hn : n < 256) (hc : c < 3) (off : Fin 2 → ℕ) (hoff : off = ![c, 16 * n]) (inb : ∀ a, off a + S1x16.size a ≤ S3x4096.size a)
    (l : Fin 16) :
    View.readAt (Elt F) (Memref.whole cc1_scratch1).view (Rect.unit (s := S3x4096) off S1x16.size inb).toLoadRect x (ix2 0 l) = addend x n c l.val := by
  subst hoff
  have hl := l.isLt
  unfold addend
  rw [dif_pos hc]
  refine congrArg x (funext fun (a : Fin 2) => Fin.ext ?_)
  match a with
  | 0 => show c + 1 * 0 = c; omega
  | 1 => show 16 * n + 1 * l.val = (16 * n + l.val) % 4096; omega

/-- The index vector of channel `c`: lane `l`'s accumulator of its pixel's label. -/
theorem idx_val (s : Seg F) (hs : ∀ j, (s j).toNat < 64) (k : Fin k1_t2_loop.trips) (c : ℕ) (hc : c < 4) (v : Vec F S16 .i32)
    (hv : ∀ l : Fin 16, v (ix1 l) = s (place (16 * k.val + l.val))) (l : Fin 16) :
    (addi (k1_pay4 v) (broadcast S16 (BitVec.ofNat 32 (1024 * c))) (ix1 l)).toNat = 1024 * c + 64 * l.val + (s (place (16 * k.val + l.val))).toNat := by
  have h := hs (place (16 * k.val + l.val))
  have hl := l.isLt
  have e : addi (k1_pay4 v) (broadcast S16 (BitVec.ofNat 32 (1024 * c))) (ix1 l)
      = BitVec.ofNat 32 l.val * 64#32 + s (place (16 * k.val + l.val)) + BitVec.ofNat 32 (1024 * c) := by
    unfold k1_pay4; rw [← hv]; pointwise; rfl
  rw [e, BitVec.toNat_add, BitVec.toNat_add, BitVec.toNat_mul, BitVec.toNat_ofNat, BitVec.toNat_ofNat, BitVec.toNat_ofNat]
  omega

/-- Such a vector's lanes are inside the accumulators. -/
theorem idx_chk (s : Seg F) (hs : ∀ j, (s j).toNat < 64) (n c : ℕ) (hc : c < 4) (iv : IVec S16 32)
    (hiv : ∀ l : Fin 16, (iv (ix1 l)).toNat = 1024 * c + 64 * l.val + (s (place (16 * n + l.val))).toNat) :
    ∀ a x, ((![iv] : Fin 1 → IVec S16 32) a x).toNat < S4096.size a := by
  intro a x
  obtain ⟨l, rfl⟩ : ∃ l : Fin 16, x = ix1 l := ⟨x 0, eq_ix1 x⟩
  match a with
  | 0 => have := hiv l; have := l.isLt; have := hs (place (16 * n + l.val)); show (iv (ix1 l)).toNat < 4096; omega

/-- One trip of the scatter loop. -/
theorem scatter_trip (s : Seg F) (x : Pix F) (hs : ∀ j, (s j).toNat < 64) (k : Fin k1_t2_loop.trips) (b : BitVec 32) :
    iprop(segP d L s ∗ pixP d L x ∗ accP d L (accAt s x k.val)) ⊢ wp frame (wpE (defs₀ (F := F)) 𝒱₀ (tileT d L) none) Set.univ
      (k1_t2_body L x2 h2 x3 h3 x4 h4 segM (Memref.isWhole_whole _) pixM (Memref.isWhole_whole _) accM (Memref.isWhole_whole _) resM (Memref.isWhole_whole _) a0 a1 a2 k b)
      fun _ => iprop(segP d L s ∗ pixP d L x ∗ accP d L (accAt s x (k.val + 1))) := by
  have hk : k.val < 256 := Nat.lt_of_lt_of_le k.isLt k1_t2_abs.2.1
  have i0 : ∀ l : Fin 16, (k1_pay6 (View.readAt (Elt F) (Memref.whole cc1_scratch0).view (Rect.unit (s := S4096) (k1_off4 k) S16.size (k1_off4_inb k)).toLoadRect s) (ix1 l)).toNat
      = 1024 * 0 + 64 * l.val + (s (place (16 * k.val + l.val))).toNat := idx_val s hs k 0 (by decide) _ (seg_ld s k)
  have i1 : ∀ l : Fin 16, (k1_pay8 (View.readAt (Elt F) (Memref.whole cc1_scratch0).view (Rect.unit (s := S4096) (k1_off4 k) S16.size (k1_off4_inb k)).toLoadRect s) (ix1 l)).toNat
      = 1024 * 1 + 64 * l.val + (s (place (16 * k.val + l.val))).toNat := idx_val s hs k 1 (by decide) _ (seg_ld s k)
  have i2 : ∀ l : Fin 16, (k1_pay10 (View.readAt (Elt F) (Memref.whole cc1_scratch0).view (Rect.unit (s := S4096) (k1_off4 k) S16.size (k1_off4_inb k)).toLoadRect s) (ix1 l)).toNat
      = 1024 * 2 + 64 * l.val + (s (place (16 * k.val + l.val))).toNat := idx_val s hs k 2 (by decide) _ (seg_ld s k)
  have i3 : ∀ l : Fin 16, (k1_pay11 (View.readAt (Elt F) (Memref.whole cc1_scratch0).view (Rect.unit (s := S4096) (k1_off4 k) S16.size (k1_off4_inb k)).toLoadRect s) (ix1 l)).toNat
      = 1024 * 3 + 64 * l.val + (s (place (16 * k.val + l.val))).toNat := idx_val s hs k 3 (by decide) _ (seg_ld s k)
  have c1 : k1_chk1 _ := idx_chk s hs k.val 0 (by decide) _ i0
  have c2 : k1_chk2 _ := idx_chk s hs k.val 1 (by decide) _ i1
  have c3 : k1_chk3 _ := idx_chk s hs k.val 2 (by decide) _ i2
  have c4 : k1_chk4 _ := idx_chk s hs k.val 3 (by decide) _ i3
  unfold k1_t2_body
  iintro ⟨HS, HX, HA⟩
  sl_exec
  iapply (acc_step d L s x k.val 0 hk (by decide) hs _ _ _ i0 ?v0) $$ HA
  case v0 =>
    intro l
    unfold k1_pay5
    refine Eq.trans ?_ (pix_ld x k.val 0 hk (by decide) _ (k1_off5_eq k) (k1_off5_inb k) l)
    pointwise
  iintro HA
  sl_exec
  iapply (acc_step d L s x k.val 1 hk (by decide) hs _ _ _ i1 ?v1) $$ HA
  case v1 =>
    intro l
    unfold k1_pay7
    refine Eq.trans ?_ (pix_ld x k.val 1 hk (by decide) _ (k1_off6_eq k) (k1_off6_inb k) l)
    pointwise
  iintro HA
  sl_exec
  iapply (acc_step d L s x k.val 2 hk (by decide) hs _ _ _ i2 ?v2) $$ HA
  case v2 =>
    intro l
    unfold k1_pay9
    refine Eq.trans ?_ (pix_ld x k.val 2 hk (by decide) _ (k1_off7_eq k) (k1_off7_inb k) l)
    pointwise
  iintro HA
  sl_exec
  iapply (acc_step d L s x k.val 3 hk (by decide) hs _ _ _ i3 (fun _ => rfl)) $$ HA
  iintro HA
  sl_exec
  sl_step
  isplitl [HS]
  · iexact HS
  isplitl [HX]
  · iexact HX
  · iexact HA

end Cert.Proof.Ki
-- ==== Proof.Ideal.Tile.lean ====
/- One tile's task: its rows of labels and values fetched, the accumulators zeroed and filled, the means written out. -/
module

public import proofs.«01_k».proof.Proof.Ideal.Loops

@[expose] public section

noncomputable section

namespace Cert.Proof.Ki

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "xM" => (Memref.whole Cert.KernelIdeal.main_v4_scv : Memref Cert.KernelIdeal.sig Kind.scVector Space.hbm Cert.KernelIdeal.S32x3x4096 EltTy.f32)
local notation "gM" => (Memref.whole Cert.KernelIdeal.main_arg1_scv : Memref Cert.KernelIdeal.sig Kind.scVector Space.hbm Cert.KernelIdeal.S32x4096 EltTy.i32)
local notation "oM" => (Memref.whole Cert.KernelIdeal.main_v5_scv : Memref Cert.KernelIdeal.sig Kind.scVector Space.hbm Cert.KernelIdeal.S32x64x3 EltTy.f32)
local notation "segM" => (Memref.whole Cert.KernelIdeal.cc1_scratch0 : Memref Cert.KernelIdeal.sig Kind.scVector Space.vmem Cert.KernelIdeal.S4096 EltTy.i32)
local notation "pixM" => (Memref.whole Cert.KernelIdeal.cc1_scratch1 : Memref Cert.KernelIdeal.sig Kind.scVector Space.vmem Cert.KernelIdeal.S3x4096 EltTy.f32)
local notation "accM" => (Memref.whole Cert.KernelIdeal.cc1_scratch2 : Memref Cert.KernelIdeal.sig Kind.scVector Space.vmem Cert.KernelIdeal.S4096 EltTy.f32)
local notation "resM" => (Memref.whole Cert.KernelIdeal.cc1_scratch3 : Memref Cert.KernelIdeal.sig Kind.scVector Space.vmem Cert.KernelIdeal.S64x3 EltTy.f32)

variable [FloatOps F] (d : Dev nD) (L : grid1.Coords)

/-! ## The tile's rows of the arrays -/

abbrev xRow (L : grid1.Coords) : Memref sig .scVector .hbm S3x4096 .f32 :=
  ((xM).slice (Rect.unit (s := S32x3x4096) (k1_off2 L) S1x3x4096.size (k1_off2_inb L)) (fun _ => rfl)).squeeze S3x4096 squeezes_S1x3x4096_S3x4096
abbrev gRow (L : grid1.Coords) : Memref sig .scVector .hbm S4096 .i32 :=
  ((gM).slice (Rect.unit (s := S32x4096) (k1_off1 L) S1x4096.size (k1_off1_inb L)) (fun _ => rfl)).squeeze S4096 squeezes_S1x4096_S4096
abbrev oRow (L : grid1.Coords) : Memref sig .scVector .hbm S64x3 .f32 :=
  ((oM).slice (Rect.unit (s := S32x64x3) (k1_off8 L) S1x64x3.size (k1_off8_inb L)) (fun _ => rfl)).squeeze S64x3 squeezes_S1x64x3_S64x3

abbrev xLoc (d : Dev nD) : Loc nD τ sig := (SparseCore.T d).loc main_v4
abbrev gLoc (d : Dev nD) : Loc nD τ sig := (SparseCore.T d).loc main_arg1
abbrev oLoc (d : Dev nD) : Loc nD τ sig := (SparseCore.T d).loc main_v5

abbrev xRowP (d : Dev nD) (L : grid1.Coords) (f : Buf (Elt F) (xLoc d)) : sProp 𝕄 := (xRow L).view.loc (tileT d L) ↦[(xRow L).view.set]{fullShare} f
abbrev gRowP (d : Dev nD) (L : grid1.Coords) (f : Buf (Elt F) (gLoc d)) : sProp 𝕄 := (gRow L).view.loc (tileT d L) ↦[(gRow L).view.set]{fullShare} f
abbrev oRowP (d : Dev nD) (L : grid1.Coords) (f : Buf (Elt F) (oLoc d)) : sProp 𝕄 := (oRow L).view.loc (tileT d L) ↦[(oRow L).view.set]{fullShare} f

/-- The tile's row number. -/
def rowN (L : grid1.Coords) : Fin 32 :=
  ⟨2 * (L 1).val + (L 0).val, by have h0 : (L 0).val < 2 := (L 0).isLt; have h1 : (L 1).val < 16 := (L 1).isLt; omega⟩

/-- Where an index of a row's memref lies in the array. -/
theorem emb_gRow (j : S4096.Idx) : (gRow L).view.emb j = ix2 (rowN L) (j 0) := by
  show (Rect.unit (s := S32x4096) (k1_off1 L) S1x4096.size (k1_off1_inb L)).emb (Shape.reshapeEquiv _ j) = _
  erw [Shape.reshapeEquiv_cons_one]
  funext a
  apply Fin.ext
  match a with
  | 0 => show k1_off1 L 0 + 1 * 0 = _; rw [k1_off1_eq]; rfl
  | 1 => show k1_off1 L 1 + 1 * (j 0).val = (j 0).val; rw [k1_off1_eq]; show 0 + 1 * (j 0).val = _; omega

/-- Where an element of a tile's row of values lies in the whole array. -/
theorem emb_xRow (j : S3x4096.Idx) : (xRow L).view.emb j = ix3 (rowN L) (j 0) (j 1) := by
  show (Rect.unit (s := S32x3x4096) (k1_off2 L) S1x3x4096.size (k1_off2_inb L)).emb (Shape.reshapeEquiv _ j) = _
  erw [Shape.reshapeEquiv_cons_one]
  funext a
  apply Fin.ext
  match a with
  | 0 => show k1_off2 L 0 + 1 * 0 = _; rw [k1_off2_eq]; rfl
  | 1 => show k1_off2 L 1 + 1 * (j 0).val = (j 0).val; rw [k1_off2_eq]; show 0 + 1 * (j 0).val = _; omega
  | 2 => show k1_off2 L 2 + 1 * (j 1).val = (j 1).val; rw [k1_off2_eq]; show 0 + 1 * (j 1).val = _; omega

/-- Where an element of a tile's row of means lies in the whole array. -/
theorem emb_oRow (j : S64x3.Idx) : (oRow L).view.emb j = ix3 (rowN L) (j 0) (j 1) := by
  show (Rect.unit (s := S32x64x3) (k1_off8 L) S1x64x3.size (k1_off8_inb L)).emb (Shape.reshapeEquiv _ j) = _
  erw [Shape.reshapeEquiv_cons_one]
  funext a
  apply Fin.ext
  match a with
  | 0 => show k1_off8 L 0 + 1 * 0 = _; rw [k1_off8_eq]; rfl
  | 1 => show k1_off8 L 1 + 1 * (j 0).val = (j 0).val; rw [k1_off8_eq]; show 0 + 1 * (j 0).val = _; omega
  | 2 => show k1_off8 L 2 + 1 * (j 1).val = (j 1).val; rw [k1_off8_eq]; show 0 + 1 * (j 1).val = _; omega

/-- The rows the tile reads of the arrays' contents. -/
abbrev segOf (L : grid1.Coords) (f : Vec F S32x4096 .i32) : Seg F := segRow f (rowN L)
abbrev pixOf (L : grid1.Coords) (f : Vec F S32x3x4096 .f32) : Pix F := pixRow f (rowN L)

/-- A tile's row of labels, read. -/
theorem read_gRow (f : Vec F S32x4096 .i32) : (gRow L).view.read (Elt F) f = segOf L f := by
  funext j
  show f ((gRow L).view.emb j) = _
  rw [emb_gRow]; rfl
/-- A tile's row of values, read. -/
theorem read_xRow (f : Vec F S32x3x4096 .f32) : (xRow L).view.read (Elt F) f = pixOf L f := by
  funext j
  show f ((xRow L).view.emb j) = _
  rw [emb_xRow]; rfl

/-- A row of means written out, the tile's row holds what the whole result is there. -/
theorem write_oRow (fx : Vec F S32x3x4096 .f32) (fg : Vec F S32x4096 .i32) (fo : Buf (Elt F) (oLoc d)) :
    oRowP d L ((oRow L).view.writes (Elt F) fo [⟨Rect.whole S64x3, rowMeans (segOf L fg) (pixOf L fx)⟩]) = oRowP d L (outAll fx fg) := by
  refine pointsTo_congr fun i hi => ?_
  obtain ⟨j, -, rfl⟩ := Finset.mem_map.mp hi
  rw [← View.write_univ_eq_writes_whole, View.writes_nil, View.write_emb_of_mem _ _ (Finset.mem_univ _), emb_oRow]
  show rowMeans (segOf L fg) (pixOf L fx) j = rowMeans _ _ (ix2 (j 0) (j 1))
  rw [← eq_ix2]; rfl

/-- The zeroing loop has 256 trips. -/
theorem trips1 : Scf.trips k1_t1_loop.lb k1_t1_loop.ub k1_t1_loop.st = 256 := by decide +kernel
/-- The scatter loop has 256 trips. -/
theorem trips2 : Scf.trips k1_t2_loop.lb k1_t2_loop.ub k1_t2_loop.st = 256 := by decide +kernel

/-- The zero loop's invariant: the accumulators below the trip's at zero. The fill loop's: the accumulators after the trips so far. -/
def zeroInv (d : Dev nD) (L : grid1.Coords) (n : ℕ) (_ : BitVec 32) : sProp 𝕄 :=
  iprop(∃ A : Acc F, ⌜∀ j : S4096.Idx, (j 0).val < 16 * n → A j = zeroF⌝ ∗ accP d L A)
def fillInv (d : Dev nD) (L : grid1.Coords) (s : Seg F) (x : Pix F) (n : ℕ) (_ : BitVec 32) : sProp 𝕄 :=
  iprop(segP d L s ∗ pixP d L x ∗ accP d L (accAt s x n))

/-- Part 1: the two rows fetched, the accumulators zeroed and filled, the first lane of the first counts. -/
theorem part1 (O : CellTallies nD τ sig (HIx 1)) (W : Waits sig (HIx 1)) (fx : Buf (Elt F) (xLoc d)) (fg : Buf (Elt F) (gLoc d))
    (hs : ∀ j, (segOf (F := F) L fg j).toNat < 64) (s : Seg F) (x : Pix F) (A : Acc F) :
    iprop(Transfers.MayWaits (tileT d L) (none : HIx 1) O ∗ xRowP d L fx ∗ gRowP d L fg ∗ segP d L s ∗ pixP d L x ∗ accP d L A
        ∗ semVal (tileT d L, SemLoc.dma cc1_scoped0.sem) 0 ∗ semVal (tileT d L, SemLoc.dma cc1_scoped1.sem) 0 ∗ owes (tileT d L) O W)
      ⊢ wp frame (wpE (defs₀ (F := F)) 𝒱₀ (tileT d L) none) Set.univ
      (k1_part1 L xM (Memref.isWhole_whole _) gM (Memref.isWhole_whole _) oM (Memref.isWhole_whole _) segM (Memref.isWhole_whole _) pixM (Memref.isWhole_whole _)
        accM (Memref.isWhole_whole _) resM (Memref.isWhole_whole _) cc1_scoped0 cc1_scoped1 cc1_scoped2)
      fun r => iprop(⌜r = ⟨lanesV, k1_pay2, cumV (accAt (segOf L fg) (pixOf L fx) 256) 3 0 1⟩⌝ ∗ xRowP d L fx ∗ gRowP d L fg
        ∗ segP d L (segOf L fg) ∗ pixP d L (pixOf L fx) ∗ accP d L (accAt (segOf L fg) (pixOf L fx) 256)
        ∗ semVal (tileT d L, SemLoc.dma cc1_scoped0.sem) 0 ∗ semVal (tileT d L, SemLoc.dma cc1_scoped1.sem) 0
        ∗ ∃ W', ⌜∀ p ∈ W', p ∈ W ∨ p.2 = none⌝ ∗ owes (tileT d L) O W') := by
  rw [k1_part1_eq_skeleton]; unfold k1_part1_skel
  iintro ⟨Hmw, HX, HG, HS, HP, HA, Hs0, Hs1, HO⟩
  sl_exec
  ihave HS' := (Entails.of_eq (congrArg (segP d L) (show View.write (Elt F) (Memref.whole cc1_scratch0).view s (part1.sl.dma0 d L fg) Finset.univ = segOf L fg from
    (View.write_whole_univ _ _ _).trans (read_gRow L fg)))) $$ HS
  ihave HP' := (Entails.of_eq (congrArg (pixP d L) (show View.write (Elt F) (Memref.whole cc1_scratch1).view x (part1.sl.dma0_1 d L fx) Finset.univ = pixOf L fx from
    (View.write_whole_univ _ _ _).trans (read_xRow L fx)))) $$ HP
  sl_for (zeroInv d L) $$ [HA]
  case region =>
    intro k b
    unfold zeroInv
    iintro ⟨%A, %hA, HA⟩
    iapply (zero_trip d L _ _ _ _ _ _ _ _ _ A k b hA) $$ HA
  · unfold zeroInv
    iexists A; isplitr
    · ipureintro; exact fun j hj => absurd hj (by omega)
    · iexact HA
  iintro %_ HI
  unfold zeroInv
  icases HI with ⟨%A0, %hA0, HA⟩
  ihave HA' := (Entails.of_eq (congrArg (accP d L) (show A0 = accAt (segOf L fg) (pixOf L fx) 0 from
    funext fun j => hA0 j (by rw [trips1]; exact (j 0).isLt)))) $$ HA
  sl_for (fillInv d L (segOf L fg) (pixOf L fx)) $$ [HS' HP' HA']
  case region =>
    intro k b
    exact scatter_trip d L _ _ _ _ _ _ _ _ _ _ _ hs k b
  · unfold fillInv
    isplitl [HS']
    · iexact HS'
    isplitl [HP']
    · iexact HP'
    · iexact HA'
  iintro %_ HI
  unfold fillInv
  icases HI with ⟨HS, HP, HA⟩
  rw [trips2]
  sl_exec
  sl_step
  isplitr
  · ipureintro; simp only [ld_eq, k1_pay12, cumV, Nat.reduceMul, Nat.reduceAdd]; rfl
  isplitl [HX]
  · iexact HX
  isplitl [HG]
  · iexact HG
  isplitl [HS]
  · iexact HS
  isplitl [HP]
  · iexact HP
  isplitl [HA]
  · iexact HA
  isplitl [Hs0]
  · iexact Hs0
  isplitl [Hs1]
  · iexact Hs1
  iexists (insert (SemLoc.dma cc1_scoped1.sem, (default : HIx 1)) (insert (SemLoc.dma cc1_scoped0.sem, (default : HIx 1)) W)); isplitr
  · ipureintro; intro p hp
    rcases Finset.mem_insert.mp hp with rfl | hp
    · exact .inr rfl
    rcases Finset.mem_insert.mp hp with rfl | hp
    · exact .inr rfl
    · exact .inl hp
  · iexact HO

/-- A part run where what it needs is held beside the rest. -/
theorem part_bind {α β : Type} {p : Prog (TpuEff nD τ sig (Elt F) Λ₀ (tileT d L).2) α} {k : α → Prog (TpuEff nD τ sig (Elt F) Λ₀ (tileT d L).2) β}
    {P : sProp 𝕄} {Φ : α → sProp 𝕄} {Q : β → sProp 𝕄} (hp : P ⊢ wp frame (wpE (defs₀ (F := F)) 𝒱₀ (tileT d L) none) Set.univ p Φ) :
    P ⊢ iprop((∀ r, Φ r -∗ wp frame (wpE (defs₀ (F := F)) 𝒱₀ (tileT d L) none) Set.univ (k r) Q)
      -∗ wp frame (wpE (defs₀ (F := F)) 𝒱₀ (tileT d L) none) Set.univ (p >>= k) Q) := by
  rw [wp_bind]
  exact hp.trans (wp_wand _ _ _)

/-- The task: from the tile's rows of values and labels and its row of the result, the row of means written. -/
theorem task (O : CellTallies nD τ sig (HIx 1)) (W : Waits sig (HIx 1)) (fx : Buf (Elt F) (xLoc d)) (fg : Buf (Elt F) (gLoc d)) (fo : Buf (Elt F) (oLoc d))
    (hs : ∀ j, (segOf (F := F) L fg j).toNat < 64) (s : Seg F) (x : Pix F) (A : Acc F) (g : Vec F S64x3 .f32) :
    iprop(Transfers.MayWaits (tileT d L) (none : HIx 1) O ∗ xRowP d L fx ∗ gRowP d L fg ∗ oRowP d L fo ∗ segP d L s ∗ pixP d L x ∗ accP d L A ∗ resP d L g
        ∗ semVal (tileT d L, SemLoc.dma cc1_scoped0.sem) 0 ∗ semVal (tileT d L, SemLoc.dma cc1_scoped1.sem) 0
        ∗ semVal (tileT d L, SemLoc.dma cc1_scoped2.sem) 0 ∗ owes (tileT d L) O W)
      ⊢ wp frame (wpE (defs₀ (F := F)) 𝒱₀ (tileT d L) none) Set.univ
      (cc1__sc_seg_body L xM (Memref.isWhole_whole _) gM (Memref.isWhole_whole _) oM (Memref.isWhole_whole _) segM (Memref.isWhole_whole _) pixM (Memref.isWhole_whole _)
        accM (Memref.isWhole_whole _) resM (Memref.isWhole_whole _) cc1_scoped0 cc1_scoped1 cc1_scoped2)
      fun _ => iprop(xRowP d L fx ∗ gRowP d L fg
        ∗ oRowP d L (outAll fx fg)
        ∗ (∃ s, segP d L s) ∗ (∃ x, pixP d L x) ∗ (∃ A, accP d L A) ∗ (∃ g, resP d L g)
        ∗ semVal (tileT d L, SemLoc.dma cc1_scoped0.sem) 0 ∗ semVal (tileT d L, SemLoc.dma cc1_scoped1.sem) 0
        ∗ semVal (tileT d L, SemLoc.dma cc1_scoped2.sem) 0
        ∗ ∃ W', ⌜∀ p ∈ W', p ∈ W ∨ p.2 = none⌝ ∗ owes (tileT d L) O W') := by
  rw [cc1__sc_seg_body_eq_skeleton]; unfold cc1__sc_seg_body_skel
  iintro ⟨#Hmw, HX, HG, HY, HS, HP, HA, HR, Hs0, Hs1, Hs2, HO⟩
  iapply (part_bind d L (part1 d L O W fx fg hs s x A)) $$ [HX HG HS HP HA Hs0 Hs1 HO]
  · isplitr
    · iexact Hmw
    isplitl [HX]
    · iexact HX
    isplitl [HG]
    · iexact HG
    isplitl [HS]
    · iexact HS
    isplitl [HP]
    · iexact HP
    isplitl [HA]
    · iexact HA
    isplitl [Hs0]
    · iexact Hs0
    isplitl [Hs1]
    · iexact Hs1
    · iexact HO
  iintro %_ ⟨%hr, HX, HG, HS, HP, HA, Hs0, Hs1, %W1, %hW1, HO⟩
  subst hr
  dsimp only
  iapply (part_bind d L (part2 d L _ _ _ _ _ _ _ _ _ _ _ _ _ _)) $$ HA
  iintro %_ ⟨%hr, HA⟩
  subst hr
  dsimp only
  iapply (part_bind d L (part3 d L _ _ _ _ _ _ _ _ _ _ _ _ _ _ g (Done.zero _ g))) $$ [HA HR]
  · isplitl [HA] <;> iassumption
  iintro %_ ⟨%hr, HA, %g1, %hg1, HR⟩
  subst hr
  dsimp only
  iapply (part_bind d L (part4 d L _ _ _ _ _ _ _ _ _ _ _ _ _ _ g1 hg1)) $$ [HA HR]
  · isplitl [HA] <;> iassumption
  iintro %_ ⟨%hr, HA, %g2, %hg2, HR⟩
  subst hr
  dsimp only
  iapply (part_bind d L (part5 d L _ _ _ _ _ _ _ _ _ _ _ _ _ _ g2 hg2)) $$ [HA HR]
  · isplitl [HA] <;> iassumption
  iintro %_ ⟨%hr, HA, %g3, %hg3, HR⟩
  subst hr
  dsimp only
  iapply (part_bind d L (part6 d L _ _ _ _ _ _ _ _ _ _ _ _ _ _)) $$ HA
  iintro %_ ⟨%hr, HA⟩
  subst hr
  dsimp only
  iapply (part_bind d L (part7 d L _ _ _ _ _ _ _ _ _ _ _ _ _ _ g3 hg3)) $$ [HA HR]
  · isplitl [HA] <;> iassumption
  iintro %_ ⟨%hr, HA, %g4, %hg4, HR⟩
  subst hr
  dsimp only
  iapply (part_bind d L (part8 d L _ _ _ _ _ _ _ _ _ _ _ _ _ _ g4 hg4)) $$ [HA HR]
  · isplitl [HA] <;> iassumption
  iintro %_ ⟨%hr, HA, %g5, %hg5, HR⟩
  subst hr
  dsimp only
  iapply (part_bind d L (part9 d L _ _ _ _ _ _ _ _ _ _ _ _ _ _ g5 hg5)) $$ [HA HR]
  · isplitl [HA] <;> iassumption
  iintro %_ ⟨%hr, HA, %g6, %hg6, HR⟩
  subst hr
  dsimp only
  iapply (part_bind d L (part10 d L _ _ _ _ _ _ _ _ _ _ _ _ _ _ g6 hg6)) $$ [HA HR]
  · isplitl [HA] <;> iassumption
  iintro %_ ⟨%hr, HA, %g7, %hg7, HR⟩
  subst hr
  dsimp only
  iapply (part_bind d L (part11 d L _ _ _ _ _ _ _ _ _ _ _ _ _ _ g7 hg7)) $$ [HA HR]
  · isplitl [HA] <;> iassumption
  iintro %_ ⟨%hr, HA, %g8, %hg8, HR⟩
  subst hr
  dsimp only
  iapply (part_bind d L (part12 d L _ _ _ _ _ _ _ _ _ _ _ _ _ _ g8 hg8)) $$ [HA HR]
  · isplitl [HA] <;> iassumption
  iintro %_ ⟨%hr, HA, %g9, %hg9, HR⟩
  subst hr
  dsimp only
  iapply (part_bind d L (part13 d L _ _ _ _ _ _ _ _ _ _ _ _ _ _)) $$ HA
  iintro %_ ⟨%hr, HA⟩
  subst hr
  dsimp only
  iapply (part_bind d L (part14 d L _ _ _ _ _ _ _ _ _ _ _ _ _ _ g9 hg9)) $$ [HA HR]
  · isplitl [HA] <;> iassumption
  iintro %_ ⟨%hr, HA, %g10, %hg10, HR⟩
  subst hr
  dsimp only
  iapply (part_bind d L (part15 d L _ _ _ _ _ _ _ _ _ _ _ _ _ _ g10 hg10)) $$ [HA HR]
  · isplitl [HA] <;> iassumption
  iintro %_ ⟨%hr, HA, %g11, %hg11, HR⟩
  subst hr
  dsimp only
  have hchk : k1_chk16 (rowsV 3) (broadcast S16 2#32) := chk 3 2 (by decide) (by decide)
  sl_exec
  iapply (scatter_step d L (accAt (segOf L fg) (pixOf L fx) 256) g11 11 3 2 hg11 (by decide) (by decide) rfl _ _ rfl rfl _ ?hv) $$ HR
  case hv => simp only [ld_eq, k1_pay1, cumV, Nat.reduceMul, Nat.reduceAdd]
  iintro %g12 %hg12 HR
  sl_exec
  ihave HY' := (Entails.of_eq ((congrArg (fun w => oRowP d L ((oRow L).view.writes (Elt F) fo [⟨Rect.whole S64x3, w⟩]))
    (show task.sl.dma0 g12 = rowMeans (segOf L fg) (pixOf L fx) from hg12.all)).trans (write_oRow d L fx fg fo))) $$ HY
  sl_step
  isplitl [HX]
  · iexact HX
  isplitl [HG]
  · iexact HG
  isplitl [HY']
  · iexact HY'
  isplitl [HS]
  · iexists _; iexact HS
  isplitl [HP]
  · iexists _; iexact HP
  isplitl [HA]
  · iexists _; iexact HA
  isplitl [HR]
  · iexists _; iexact HR
  isplitl [Hs0]
  · iexact Hs0
  isplitl [Hs1]
  · iexact Hs1
  isplitl [Hs2]
  · iexact Hs2
  iexists (insert (SemLoc.dma cc1_scoped2.sem, (default : HIx 1)) W1); isplitr
  · ipureintro; intro p hp
    rcases Finset.mem_insert.mp hp with rfl | hp
    · exact .inr rfl
    · exact hW1 p hp
  · iexact HO

end Cert.Proof.Ki
-- ==== Proof.Ideal.Obl.lean ====
/- The SparseCore call as the launch takes it: what it hands each tile and takes back, the tile's task from its scoped
   storage, and the thirty-two rows put together. -/
module

public import proofs.«01_k».proof.Proof.Ideal.Tile

@[expose] public section

noncomputable section

namespace Cert.Proof.Ki

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "xM" => (Memref.whole Cert.KernelIdeal.main_v4_scv : Memref Cert.KernelIdeal.sig Kind.scVector Space.hbm Cert.KernelIdeal.S32x3x4096 EltTy.f32)
local notation "gM" => (Memref.whole Cert.KernelIdeal.main_arg1_scv : Memref Cert.KernelIdeal.sig Kind.scVector Space.hbm Cert.KernelIdeal.S32x4096 EltTy.i32)
local notation "oM" => (Memref.whole Cert.KernelIdeal.main_v5_scv : Memref Cert.KernelIdeal.sig Kind.scVector Space.hbm Cert.KernelIdeal.S32x64x3 EltTy.f32)
local notation "segM" => (Memref.whole Cert.KernelIdeal.cc1_scratch0 : Memref Cert.KernelIdeal.sig Kind.scVector Space.vmem Cert.KernelIdeal.S4096 EltTy.i32)
local notation "pixM" => (Memref.whole Cert.KernelIdeal.cc1_scratch1 : Memref Cert.KernelIdeal.sig Kind.scVector Space.vmem Cert.KernelIdeal.S3x4096 EltTy.f32)
local notation "accM" => (Memref.whole Cert.KernelIdeal.cc1_scratch2 : Memref Cert.KernelIdeal.sig Kind.scVector Space.vmem Cert.KernelIdeal.S4096 EltTy.f32)
local notation "resM" => (Memref.whole Cert.KernelIdeal.cc1_scratch3 : Memref Cert.KernelIdeal.sig Kind.scVector Space.vmem Cert.KernelIdeal.S64x3 EltTy.f32)

/-! ## The program as the launch theorem sees it -/

section Launch
variable [FloatOps F]

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱 : Variants := 𝒱₀.lift
abbrev v₀ : 𝒱.V := Sum.inl none

/-- The handshake's semaphores are distinct and not scoped, and no array of a SparseCore is shared by its tiles. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

end Launch

/-! ## What the call hands the tiles and takes back -/

/-- The coordinates of tile `s` of SparseCore `c`. -/
def coordsV (c : Fin (grid1.bound 0)) (s : Fin (grid1.bound 1)) : grid1.Coords :=
  fun | 0 => c | 1 => s | ⟨_ + 2, h⟩ => absurd h (Nat.not_lt.2 (Nat.le_add_left _ _))

variable [FloatOps F]
-- the arrays' contents when the call is made: the values, the labels, what the result's array held
variable (X : (d : Dev nD) → Buf (Elt F) (xLoc d)) (G : (d : Dev nD) → Buf (Elt F) (gLoc d)) (R : (d : Dev nD) → Buf (Elt F) (oLoc d))

/-- A tile's rows before its task and after it. -/
def goP (d : Dev nD) (L : grid1.Coords) : sProp 𝕄 := iprop(xRowP d L (X d) ∗ gRowP d L (G d) ∗ oRowP d L (R d))
def tdP (d : Dev nD) (L : grid1.Coords) : sProp 𝕄 := iprop(xRowP d L (X d) ∗ gRowP d L (G d) ∗ oRowP d L (outAll (X d) (G d)))

instance goP_storable (d : Dev nD) (L : grid1.Coords) : BI.Storable (upEmb : UEmb _ 𝕄) (goP X G R d L) := by unfold goP; infer_instance
instance tdP_storable (d : Dev nD) (L : grid1.Coords) : BI.Storable (upEmb : UEmb _ 𝕄) (tdP X G d L) := by unfold tdP; infer_instance

/-- Each SparseCore is handed its sixteen tiles' rows, each tile its own. -/
def P : (K (F := F)).Pay (nD := nD) (Val := Elt F) (Name := ℕ) (U := UU) where
  st := fun q d c => match q with | 0 => bigSep Finset.univ fun i : Fin (grid1.bound 1) => goP X G R d (coordsV c i)
  dn := fun q d c => match q with | 0 => bigSep Finset.univ fun i : Fin (grid1.bound 1) => tdP X G d (coordsV c i)
  go := fun q d c i => match q with | 0 => goP X G R d (coordsV c i)
  td := fun q d c i => match q with | 0 => tdP X G d (coordsV c i)
  x := fun _ _ => iprop(emp)

instance P_storable : (P (F := F) X G R).IsStorable where
  st q d c := match q with
    | 0 => (inferInstance : BI.Storable (upEmb : UEmb _ 𝕄) (bigSep Finset.univ fun i : Fin (grid1.bound 1) => goP X G R d (coordsV c i)))
  dn q d c := match q with
    | 0 => (inferInstance : BI.Storable (upEmb : UEmb _ 𝕄) (bigSep Finset.univ fun i : Fin (grid1.bound 1) => tdP X G d (coordsV c i)))
  go q d c i := match q with
    | 0 => goP_storable X G R d (coordsV c i)
  td q d c i := match q with
    | 0 => tdP_storable X G d (coordsV c i)

/-- What a SparseCore is handed splits into what its tiles are handed, and joins again when they are done. -/
theorem vecSplit : (K (F := F)).VecSplit' (P X G R) 0 := by
  intro d c
  show (bigSep Finset.univ fun i : Fin (grid1.bound 1) => goP X G R d (coordsV c i)) ⊢ |={Set.univ}=> iprop(
      (bigSep Finset.univ fun i : Fin (grid1.bound 1) => goP X G R d (coordsV c i))
      ∗ ((bigSep Finset.univ fun i : Fin (grid1.bound 1) => tdP X G d (coordsV c i))
          -∗ bigSep Finset.univ fun i : Fin (grid1.bound 1) => tdP X G d (coordsV c i)))
  iintro H; imodintro
  isplitl [H]
  · iexact H
  · iintro H; iexact H

/-! ## The tile's scoped storage -/

section Tile
variable (d : Dev nD) (L : grid1.Coords)

abbrev c0cell : GSem nD τ sig := (tileT d L, .dma cc1_scoped0.sem)
abbrev c1cell : GSem nD τ sig := (tileT d L, .dma cc1_scoped1.sem)
abbrev c2cell : GSem nD τ sig := (tileT d L, .dma cc1_scoped2.sem)

omit [FloatOps F] in
/-- The three transfer semaphores are among the tile's own. -/
theorem ownSems0_V :
    (ownSems0 (tileT d L) : sProp 𝕄)
      = iprop(semVal (c0cell d L) 0 ∗ semVal (c1cell d L) 0 ∗ semVal (c2cell d L) 0
          ∗ bigSep ((((ownCells (tileT d L)).erase (c0cell d L)).erase (c1cell d L)).erase (c2cell d L)) fun g => semVal g 0) := by
  unfold SparseCore.Cfg.ownSems0
  rw [SparseCore.bigSep_erase' ((mem_ownCells (g := c0cell d L)).mpr ⟨rfl, by
      show (SemLoc.dma cc1_scoped0.sem : SemLoc sig).isScoped .scVector = true; decide⟩),
    SparseCore.bigSep_erase' (Finset.mem_erase.mpr ⟨by simp [c0cell, c1cell]; decide, (mem_ownCells (g := c1cell d L)).mpr ⟨rfl, by
      show (SemLoc.dma cc1_scoped1.sem : SemLoc sig).isScoped .scVector = true; decide⟩⟩),
    SparseCore.bigSep_erase' (Finset.mem_erase.mpr ⟨by simp [c1cell, c2cell]; decide, Finset.mem_erase.mpr ⟨by simp [c0cell, c2cell]; decide,
      (mem_ownCells (g := c2cell d L)).mpr ⟨rfl, by show (SemLoc.dma cc1_scoped2.sem : SemLoc sig).isScoped .scVector = true; decide⟩⟩⟩)]

abbrev bRef (b : Ref sig .scVector) : DevRef τ sig := (Proc.scVector (cV L) (jV L)).devRef b

omit [FloatOps F] in
/-- The four scratch buffers are among the tile's own. -/
theorem ownBufs_V :
    (ownBufs (tileT d L) : sProp 𝕄)
      = iprop((∃ f, (tileT d L).loc cc1_scratch0 ↦{fullShare} f) ∗ (∃ f, (tileT d L).loc cc1_scratch1 ↦{fullShare} f)
          ∗ (∃ f, (tileT d L).loc cc1_scratch2 ↦{fullShare} f) ∗ (∃ f, (tileT d L).loc cc1_scratch3 ↦{fullShare} f)
          ∗ bigSep (((((ownRefs (τ := τ) (.scVector (cV L) (jV L))).erase (bRef L cc1_scratch0)).erase (bRef L cc1_scratch1)).erase (bRef L cc1_scratch2)).erase
              (bRef L cc1_scratch3)) fun b => iprop(∃ f, ((d, b) : Loc nD τ sig) ↦{fullShare} f)) := by
  have ne : ∀ {a b : Ref sig .scVector}, a ≠ b → bRef L a ≠ bRef L b := fun h e => h (Proc.devRef_injective _ e)
  have mem : ∀ b : Ref sig .scVector, (bRef L b).owner = .proc (Proc.scVector (cV L) (jV L)) → bRef L b ∈ ownRefs (τ := τ) (.scVector (cV L) (jV L)) :=
    fun b h => SparseCore.Cfg.mem_ownRefs_of_owner (p := Proc.scVector (cV L) (jV L)) h
  unfold SparseCore.Cfg.ownBufs
  refine (SparseCore.bigSep_erase' (mem cc1_scratch0 rfl)).trans ?_
  rw [SparseCore.bigSep_erase' (Finset.mem_erase.mpr ⟨ne (a := cc1_scratch1) (b := cc1_scratch0) (by decide), mem cc1_scratch1 rfl⟩),
    SparseCore.bigSep_erase' (Finset.mem_erase.mpr ⟨ne (a := cc1_scratch2) (b := cc1_scratch1) (by decide),
      Finset.mem_erase.mpr ⟨ne (a := cc1_scratch2) (b := cc1_scratch0) (by decide), mem cc1_scratch2 rfl⟩⟩),
    SparseCore.bigSep_erase' (Finset.mem_erase.mpr ⟨ne (a := cc1_scratch3) (b := cc1_scratch2) (by decide),
      Finset.mem_erase.mpr ⟨ne (a := cc1_scratch3) (b := cc1_scratch1) (by decide),
      Finset.mem_erase.mpr ⟨ne (a := cc1_scratch3) (b := cc1_scratch0) (by decide), mem cc1_scratch3 rfl⟩⟩⟩)]

/-- The task from what the call hands the tile and the tile's scoped storage. -/
theorem tile_body (hF : (K (F := F)).Facts) (hs : ∀ (d : Dev nD) (i : S32x4096.Idx), (G d i : BitVec 32).toNat < 64) (O : CellTallies nD τ sig (HIx 1)) (W : Waits sig (HIx 1))
    (hO : ∀ g, O g none = 0) :
    iprop(levAts (K (F := F)).L (K (F := F)).lev ∗ emp ∗ goP X G R d L
        ∗ scopedBufs (tileT d L) ∗ scopedSems0 (tileT d L) ∗ owes (tileT d L) O W)
      ⊢ wp frame (wpE (defs₀ (F := F)) 𝒱₀ (tileT d L) none) Set.univ
        (cc1__sc_seg_body L xM (Memref.isWhole_whole _) gM (Memref.isWhole_whole _) oM (Memref.isWhole_whole _) segM (Memref.isWhole_whole _) pixM (Memref.isWhole_whole _)
          accM (Memref.isWhole_whole _) resM (Memref.isWhole_whole _) cc1_scoped0 cc1_scoped1 cc1_scoped2)
        fun _ => iprop(tdP X G d L ∗ scopedBufs (tileT d L) ∗ scopedSems0 (tileT d L)
          ∗ ∃ W', ⌜∀ p ∈ W', p ∈ W ∨ p.2 = none⌝ ∗ owes (tileT d L) O W') := by
  rw [(K (F := F)).scopedBufs_V hF d (cV L) (jV L), SparseCore.Cfg.scopedSems0_V (Val := Elt F) d (cV L) (jV L), ownSems0_V, ownBufs_V]
  unfold goP tdP
  iintro ⟨#Hlv, -, ⟨HX, HG, HY⟩, ⟨⟨%s, HS⟩, ⟨%x, HP⟩, ⟨%A, HA⟩, ⟨%g, HR⟩, Hbufs⟩, ⟨Hs0, Hs1, Hs2, Hsems⟩, HO⟩
  ihave #Hmw := ((K (F := F)).mayWaits_none (thr := tileT d L) hO) $$ Hlv
  iapply (wp_wand frame (wpE (defs₀ (F := F)) 𝒱₀ (tileT d L) none) Set.univ) $$ [HX HG HY HS HP HA HR Hs0 Hs1 Hs2 HO]
  · iapply (task d L O W (X d) (G d) (R d) (fun j => hs d _) s x A g)
    isplitr
    · iexact Hmw
    isplitl [HX]
    · iexact HX
    isplitl [HG]
    · iexact HG
    isplitl [HY]
    · iexact HY
    isplitl [HS]
    · iexact HS
    isplitl [HP]
    · iexact HP
    isplitl [HA]
    · iexact HA
    isplitl [HR]
    · iexact HR
    isplitl [Hs0]
    · iexact Hs0
    isplitl [Hs1]
    · iexact Hs1
    isplitl [Hs2]
    · iexact Hs2
    · iexact HO
  iintro %_ ⟨HX, HG, HY, HS, HP, HA, HR, Hs0, Hs1, Hs2, HO⟩
  isplitl [HX HG HY]
  · isplitl [HX]
    · iexact HX
    isplitl [HG]
    · iexact HG
    · iexact HY
  isplitl [HS HP HA HR Hbufs]
  · isplitl [HS]
    · iexact HS
    isplitl [HP]
    · iexact HP
    isplitl [HA]
    · iexact HA
    isplitl [HR]
    · iexact HR
    · iexact Hbufs
  isplitl [Hs0 Hs1 Hs2 Hsems]
  · isplitl [Hs0]
    · iexact Hs0
    isplitl [Hs1]
    · iexact Hs1
    isplitl [Hs2]
    · iexact Hs2
    · iexact Hsems
  iexact HO

end Tile

/-- The body a tile runs is the printed one at the tile's coordinates. -/
theorem defs₀_vector (c : Fin τ.nSC) (s : Fin τ.nSub) :
    defs₀ (F := F) (.scVector c s) 1 ()
      = SparseCore.onTile hcore1 hsub1 (fun c s => cc1__sc_seg_body (coordsV c s)
          xM (Memref.isWhole_whole _) gM (Memref.isWhole_whole _) oM (Memref.isWhole_whole _) segM (Memref.isWhole_whole _) pixM (Memref.isWhole_whole _)
          accM (Memref.isWhole_whole _) resM (Memref.isWhole_whole _) cc1_scoped0 cc1_scoped1 cc1_scoped2) ⟨⟩ c s := rfl

omit [FloatOps F] in
/-- A tile that has waited for nothing else owes no more than the handshake allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- What the launch asks of every tile. -/
theorem tileObl (hs : ∀ (d : Dev nD) (i : S32x4096.Idx), (G d i : BitVec 32).toNat < 64) : (K (F := F)).TileObl (D (F := F)) 𝒱 (P X G R) v₀ 0 := by
  intro d c i O W hO _ _
  simp only [show (P (F := F) X G R).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body X G R d (coordsV ⟨_, hc.1⟩ ⟨_, hc.2⟩) facts hs O W hO).trans (wp_mono frame _ _ fun _ => obl_post)

/-! ## The rows put together -/

/-- The tiles, SparseCore by SparseCore. -/
abbrev CS : Type := Fin (grid1.bound 0) × Fin (grid1.bound 1)
abbrev rowOf (t : CS) : grid1.Coords := coordsV t.1 t.2

/-- Two tiles work on the same row only if they are the same tile. -/
theorem rowN_inj {t t' : CS} (h : rowN (rowOf t) = rowN (rowOf t')) : t = t' := by
  obtain ⟨c, s⟩ := t; obtain ⟨c', s'⟩ := t'
  have e : 2 * s.val + c.val = 2 * s'.val + c'.val := congrArg Fin.val h
  have hc : c.val < 2 := c.isLt
  have hc' : c'.val < 2 := c'.isLt
  exact Prod.ext (Fin.ext (by show c.val = c'.val; omega)) (Fin.ext (by show s.val = s'.val; omega))

/-- Every row has a tile. -/
theorem rowN_surj (r : Fin 32) : ∃ t : CS, rowN (rowOf t) = r :=
  ⟨(⟨r.val % 2, by show _ < 2; omega⟩, ⟨r.val / 2, by show _ < 16; have := r.isLt; omega⟩), Fin.ext (by show 2 * (r.val / 2) + r.val % 2 = r.val; omega)⟩

section Rows
variable (d : Dev nD)

/-- A tile's slice of the labels is its row. -/
theorem mem_gRow (L : grid1.Coords) (i : S32x4096.Idx) : i ∈ (gRow L).view.set ↔ i 0 = rowN L := by
  constructor
  · intro hi
    obtain ⟨j, -, rfl⟩ := Finset.mem_map.mp hi
    rw [emb_gRow]; rfl
  · intro hi
    refine Finset.mem_map.mpr ⟨ix1 (i 1), Finset.mem_univ _, ?_⟩
    rw [emb_gRow, ← hi]; exact (eq_ix2 i).symm
/-- A tile's slice of the values is its row. -/
theorem mem_xRow (L : grid1.Coords) (i : S32x3x4096.Idx) : i ∈ (xRow L).view.set ↔ i 0 = rowN L := by
  constructor
  · intro hi
    obtain ⟨j, -, rfl⟩ := Finset.mem_map.mp hi
    rw [emb_xRow]; rfl
  · intro hi
    refine Finset.mem_map.mpr ⟨ix2 (i 1) (i 2), Finset.mem_univ _, ?_⟩
    rw [emb_xRow, ← hi]; exact (eq_ix3 i).symm
/-- A tile's slice of the result is its row. -/
theorem mem_oRow (L : grid1.Coords) (i : S32x64x3.Idx) : i ∈ (oRow L).view.set ↔ i 0 = rowN L := by
  constructor
  · intro hi
    obtain ⟨j, -, rfl⟩ := Finset.mem_map.mp hi
    rw [emb_oRow]; rfl
  · intro hi
    refine Finset.mem_map.mpr ⟨ix2 (i 1) (i 2), Finset.mem_univ _, ?_⟩
    rw [emb_oRow, ← hi]; exact (eq_ix3 i).symm

/-- The values held whole are their rows held tile by tile. -/
theorem rows_x (f : Buf (Elt F) (xLoc d)) : (xLoc d ↦{fullShare} f : sProp 𝕄) = bigSep Finset.univ fun t : CS => xRowP d (rowOf t) f := by
  refine Eq.trans ?_ (pointsTo_biUnion Finset.univ (ℓ := xLoc d) (fun t : CS => (xRow (rowOf t)).view.set) fun t _ t' _ h =>
    Finset.disjoint_left.mpr fun i hi hi' => h (rowN_inj (((mem_xRow _ i).mp hi).symm.trans ((mem_xRow _ i).mp hi'))))
  rw [show (Finset.univ.biUnion fun t : CS => (xRow (rowOf t)).view.set) = Finset.univ from Finset.eq_univ_iff_forall.mpr fun i =>
    let ⟨t, ht⟩ := rowN_surj (i 0); Finset.mem_biUnion.mpr ⟨t, Finset.mem_univ _, (mem_xRow _ i).mpr ht.symm⟩]
/-- The labels held whole are their rows held tile by tile. -/
theorem rows_g (f : Buf (Elt F) (gLoc d)) : (gLoc d ↦{fullShare} f : sProp 𝕄) = bigSep Finset.univ fun t : CS => gRowP d (rowOf t) f := by
  refine Eq.trans ?_ (pointsTo_biUnion Finset.univ (ℓ := gLoc d) (fun t : CS => (gRow (rowOf t)).view.set) fun t _ t' _ h =>
    Finset.disjoint_left.mpr fun i hi hi' => h (rowN_inj (((mem_gRow _ i).mp hi).symm.trans ((mem_gRow _ i).mp hi'))))
  rw [show (Finset.univ.biUnion fun t : CS => (gRow (rowOf t)).view.set) = Finset.univ from Finset.eq_univ_iff_forall.mpr fun i =>
    let ⟨t, ht⟩ := rowN_surj (i 0); Finset.mem_biUnion.mpr ⟨t, Finset.mem_univ _, (mem_gRow _ i).mpr ht.symm⟩]
/-- The result held whole is its rows held tile by tile. -/
theorem rows_o (f : Buf (Elt F) (oLoc d)) : (oLoc d ↦{fullShare} f : sProp 𝕄) = bigSep Finset.univ fun t : CS => oRowP d (rowOf t) f := by
  refine Eq.trans ?_ (pointsTo_biUnion Finset.univ (ℓ := oLoc d) (fun t : CS => (oRow (rowOf t)).view.set) fun t _ t' _ h =>
    Finset.disjoint_left.mpr fun i hi hi' => h (rowN_inj (((mem_oRow _ i).mp hi).symm.trans ((mem_oRow _ i).mp hi'))))
  rw [show (Finset.univ.biUnion fun t : CS => (oRow (rowOf t)).view.set) = Finset.univ from Finset.eq_univ_iff_forall.mpr fun i =>
    let ⟨t, ht⟩ := rowN_surj (i 0); Finset.mem_biUnion.mpr ⟨t, Finset.mem_univ _, (mem_oRow _ i).mpr ht.symm⟩]

/-- What the call takes for the two SparseCores is the three arrays whole; what it hands back, the same with the means. -/
theorem st0_eq : (bigSep Finset.univ fun c : Fin ((K (F := F)).nCore 0) => (P X G R).st 0 d c)
    = iprop((xLoc d ↦{fullShare} X d) ∗ (gLoc d ↦{fullShare} G d) ∗ oLoc d ↦{fullShare} R d) := by
  show (bigSep Finset.univ fun c : Fin (grid1.bound 0) => bigSep Finset.univ fun i : Fin (grid1.bound 1) => goP X G R d (rowOf (c, i))) = _
  rw [rows_x, rows_g, rows_o, ← bigSep_sep', ← bigSep_sep']
  exact (bigSep_univ_prod (fun t : CS => goP X G R d (rowOf t))).symm
/-- What the tiles hand back together is the three arrays whole. -/
theorem dn0_eq : (bigSep Finset.univ fun c : Fin ((K (F := F)).nCore 0) => (P X G R).dn 0 d c)
    = iprop((xLoc d ↦{fullShare} X d) ∗ (gLoc d ↦{fullShare} G d) ∗ oLoc d ↦{fullShare} outAll (X d) (G d)) := by
  show (bigSep Finset.univ fun c : Fin (grid1.bound 0) => bigSep Finset.univ fun i : Fin (grid1.bound 1) => tdP X G d (rowOf (c, i))) = _
  rw [rows_x, rows_g, rows_o, ← bigSep_sep', ← bigSep_sep']
  exact (bigSep_univ_prod (fun t : CS => tdP X G d (rowOf t))).symm

end Rows

end Cert.Proof.Ki
-- ==== Proof.Ideal.Region.lean ====
/- The TensorCore call: the product of the image rows with the weights, and the bias, 256 columns at a point of the grid. -/
module

public import proofs.«01_k».proof.Proof.Ideal.Obl
public import proofs.«01_k».proof.Proof.Gen.KernelIdeal.Launch
public import proofs.«01_k».proof.Proof.Gen.KernelIdeal.Points
public import Idealize.ShloMosaic.Lib.Pipeline.RegionsLoop
public import Idealize.ShloMosaic.Lib.Pipeline.ValueKit
public import Idealize.ShloMosaic.Lib.Tactic

@[expose] public section

set_option maxRecDepth 16384

noncomputable section

namespace Cert.Proof.Ki

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-! ## The body at a point -/

/-- From the four staging buffers, the body runs to its return; it leaves the three operands as they were and the
    result at the payload of what it read. -/
theorem gemmRun (c : Dev nD) (i : grid0.Coords)
    (M1 : Memref sig .tc .vmem S32x12288 .bf16) (h1 : M1.IsWhole) (M2 : Memref sig .tc .vmem S256x12288 .f32) (h2 : M2.IsWhole)
    (M3 : Memref sig .tc .vmem S1x256 .f32) (h3 : M3.IsWhole) (M4 : Memref sig .tc .vmem S32x256 .f32) (h4 : M4.IsWhole)
    (x : Vec F S32x12288 .bf16) (w : Vec F S256x12288 .f32) (b : Vec F S1x256 .f32) (E : Set ℕ) (Q : PUnit → sProp 𝕄) :
    iprop(owns (c : Thread nD τ) M1 fullShare x ∗ owns (c : Thread nD τ) M2 fullShare w ∗ owns (c : Thread nD τ) M3 fullShare b
        ∗ (∃ y, owns (c : Thread nD τ) M4 fullShare y)
        ∗ (iprop(owns (c : Thread nD τ) M1 fullShare x ∗ owns (c : Thread nD τ) M2 fullShare w ∗ owns (c : Thread nD τ) M3 fullShare b
            ∗ owns (c : Thread nD τ) M4 fullShare (k0_pay1 b x w)) -∗ Q ⟨⟩))
      ⊢ wp frame (wpE (defs₀ (F := F)) 𝒱₀ c none) E (cc0__gemm_body i M1 h1 M2 h2 M3 h3 M4 h4) Q := by
  rw [cc0__gemm_body_eq_skeleton]
  unfold cc0__gemm_body_skel owns
  iintro ⟨⟨%f1, %e1, H1⟩, ⟨%f2, %e2, H2⟩, ⟨%f3, %e3, H3⟩, ⟨%y, %f4, %e4, H4⟩, Hk⟩
  sl_exec
  sl_step
  iapply Hk
  isplitl [H1]; · iexists f1; isplitr; · ipureintro; exact e1
                  iexact H1
  isplitl [H2]; · iexists f2; isplitr; · ipureintro; exact e2
                  iexact H2
  isplitl [H3]; · iexists f3; isplitr; · ipureintro; exact e3
                  iexact H3
  iexists _; isplitr; swap; · iexact H4
  ipureintro
  have hz2 : (![0, 0] : Fin 2 → ℕ) = fun _ => 0 := by funext a; fin_cases a <;> rfl
  rw [View.read_writes_eq_canon _ _ _ (fun y => ⟨_, List.mem_singleton_self _, View.mem_set_unit_zero hz2 inb_S32x256_S32x256_0_0 y⟩),
    View.canon_unit_zero hz2, View.readAt_eq_ld, View.readAt_eq_ld, View.readAt_eq_ld, e1, e2, e3]
  erw [View.ld_unit_zero hz2, View.ld_unit_zero hz2, View.ld_unit_zero hz2]

/-! ## The proof data, at the contents the call finds -/

variable (V : (c : Dev nD) → (b : Ref sig .tc) → Buf (Elt F) ((c : Thread nD τ).loc b))

/-- Window `w`'s block at point `t`, read off its array. -/
abbrev blkOf (c : Dev nD) (w : Fin 4) (t : Fin cfg0.N) : ((cfg0.win w).xblock (cfg0.grid.coords t)).Idx → Elt F (cfg0.win w).elt :=
  ((cfg0.win w).blk t).view.read (Elt F) (V c (Pipeline.arrRef spec0 w))

/-- What the TensorCore may have recorded before the SparseCore call: waits at level zero. -/
def below (c : Dev nD) : Set (SemLoc sig × HIx 1) := {p | (K (F := F)).lev ((c : Thread nD τ), p.1) p.2 ≤ 0}

/-- The arrays at what the call finds; after a point the operands' buffers at their blocks, the result's at the payload
    of them; the core owes what it owes before the SparseCore call. -/
def dat (c : Dev nD) : Dat τ (Elt F) (HIx 1) ℕ UU ℕ cfg0 c where
  A w := V c (Pipeline.arrRef spec0 w)
  after w t := match w with
    | ⟨0, _⟩ => blkOf V c 0 t
    | ⟨1, _⟩ => blkOf V c 1 t
    | ⟨2, _⟩ => blkOf V c 2 t
    | ⟨3, _⟩ => k0_pay1 (blkOf V c 2 t) (blkOf V c 0 t) (blkOf V c 1 t)
  Φ _ := Pipeline.scopedRest spec0 c
  q _ := fullShare
  owed _ := (K (F := F)).Otc c 0
  recorded _ := below (F := F) c

abbrev adm : (p : Fin 1) → (pcfgs (F := F) p).Adm := fun p => (cfgs p).toPCfg_adm

def pdats : (p : Fin 1) → (c : Dev nD) → Dat τ (Elt F) (HIx 1) ℕ UU ℕ (Pipeline.pin (pcfgs (F := F)) adm p) c
  | ⟨0, _⟩ => fun c => dat V c

/-- At a point the body finds the image rows. -/
theorem before_0 (c : Dev nD) (t : Fin cfg0.N) (d) : (dat V c).before 0 t d = blkOf V c 0 t :=
  (dat V c).before_in_eq_fetched 0 rfl (fun _ => rfl) (fun _ _ _ => rfl) (fun _ => rfl) t d
/-- At a point the body finds the point's block of weights. -/
theorem before_1 (c : Dev nD) (t : Fin cfg0.N) (d) : (dat V c).before 1 t d = blkOf V c 1 t :=
  (dat V c).before_in_eq_fetched 1 rfl (fun _ => rfl) (fun _ _ _ => rfl) (fun _ => rfl) t d
/-- At a point the body finds the point's block of biases. -/
theorem before_2 (c : Dev nD) (t : Fin cfg0.N) (d) : (dat V c).before 2 t d = blkOf V c 2 t :=
  (dat V c).before_in_eq_fetched 2 rfl (fun _ => rfl) (fun _ _ _ => rfl) (fun _ => rfl) t d

/-- The body at every point, in the library's form. -/
theorem body_obligation (c : Dev nD) : BodyObligation (dat V c) (defs₀ (F := F)) 𝒱₀ none Set.univ := fun t => by
  rw [bigSep_W0, bigSep_W0]
  rw [show (dat V c).Φ t.castSucc = (dat V c).Φ t.succ from rfl,
    show (dat V c).owesAt none t.castSucc = (dat V c).owesAt none t.succ from rfl]
  simp only [before_0, before_1, before_2]
  iintro ⟨HΦ, Howes, ⟨%d0, H0⟩, ⟨%d1, H1⟩, ⟨%d2, H2⟩, ⟨%d3, H3⟩⟩
  iapply (gemmRun c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) (blkOf V c 0 t) (blkOf V c 1 t) (blkOf V c 2 t) Set.univ _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Howes]; · iexact Howes
  isplitl [H0]; · iexact H0
  isplitl [H1]; · iexact H1
  isplitl [H2]; · iexact H2
  iexact H3

/-! ## The call over the buffers -/

/-- The core owes nothing at the transfers' own index. -/
theorem Otc_none (c : Dev nD) (g : GSem nD τ sig) : (K (F := F)).Otc c 0 g none = 0 :=
  Nat.eq_zero_of_not_pos fun h => absurd (SparseCore.Cfg.lev_of_Otc_pos h) (Nat.not_succ_le_zero _)

variable (Vp : (c : Dev nD) → (b : Ref sig .tc) → Buf (Elt F) ((c : Thread nD τ).loc b))

set_option backward.isDefEq.respectTransparency.types false in
/-- The call, from the unscoped buffers at `V` to them at `Vp`: the product's array rewritten, the others as they were. -/
def reg (hVp_out : ∀ c, Vp c main_v3 = (dat V c).arrAt 3 cfg0.N)
    (hVp_ne : ∀ c (b : Ref sig .tc), b ≠ main_v3 → Vp c b = V c b) :
    Pipeline.RegionSeg (pcfgs (F := F)) adm (pdats V) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation V c).loose
  hwaits c := Pipeline.cellsWaits_intro _ _ _ 0 c fun w s t => (K (F := F)).mayWait_none _ (Otc_none c)
  pre c := iprop(unscopedBufs c (V c) ∗ ∃ W, ⌜(K (F := F)).WBelow (T c) W 0⌝ ∗ owes (T c) ((K (F := F)).Otc c 0) W)
  post c := iprop(unscopedBufs c (Vp c) ∗ ∃ W, ⌜(K (F := F)).WBelow (T c) W 0⌝ ∗ owes (T c) ((K (F := F)).Otc c 0) W)
  X _ := BI.emp
  Y _ := BI.emp
  Z c := Pipeline.unscopedRest (Ix := HIx 1) (Name := ℕ) (U := UU) (Lvl := ℕ) spec0 c (V c)
  hentry c := by
    rw [Pipeline.ownSems0_none]
    have hsplit := Pipeline.arrays_of_unscopedBufs (p := 0) (pcfgs (F := F)) adm (pdats V) launch0.win launch0.arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V 0 c).Φ 0 = Pipeline.scopedRest spec0 c from rfl]
    iintro ⟨-, -, Hr⟩; iexact Hr
  hout c := by
    rw [Pipeline.ownSems0_none, show (pdats V 0 c).Φ (Fin.last _) = Pipeline.scopedRest spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch0.win launch0.arr_whole c
      (pdats V) ((pdats V 0 c).share_full fun _ => rfl) (V c) (Vp c) ((pdats V 0 c).arrAt · cfg0.N)
      (fun w => by
        fin_cases w
        · exact ((pdats V 0 c).arrAt_in 0 rfl _).trans (hVp_ne c main_v1 (by decide)).symm
        · exact ((pdats V 0 c).arrAt_in 1 rfl _).trans (hVp_ne c main_arg2 (by decide)).symm
        · exact ((pdats V 0 c).arrAt_in 2 rfl _).trans (hVp_ne c main_v2 (by decide)).symm
        · exact (hVp_out c).symm)
      (fun b hb => hVp_ne c b fun h => hb (h ▸ Finset.mem_image.mpr ⟨3, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | ⟨w, s, rfl⟩
      · exact h
      · exact le_rfl
    iexact HO

/-! ## What the call leaves in the product's array -/

/-- A column's block lies inside the array. -/
theorem lt_col {q : ℕ} (hq : q < 12288) (k : Fin 256) : 256 * (q / 256) + k.val < 12288 := by omega

/-- The product's array: at a column, the payload of the 256 rows of weights and the 256 biases of the column's block. -/
def gemmAll (x : Vec F S32x12288 .bf16) (w : Vec F S12288x12288 .f32) (b : Vec F S1x12288 .f32) : Vec F S32x12288 .f32 := fun i =>
  k0_pay1 (fun j => b (ix2 0 ⟨256 * ((i 1).val / 256) + (j 1).val, lt_col (i 1).isLt (j 1)⟩)) x
    (fun j => w (ix2 ⟨256 * ((i 1).val / 256) + (j 0).val, lt_col (i 1).isLt (j 0)⟩ (j 1)))
    (ix2 (i 0) ⟨(i 1).val % 256, Nat.mod_lt _ (by decide)⟩)

/-- The image rows are fetched whole. -/
theorem idx_0 : ∀ t : Fin cfg0.N, win0_0.index t = ![0, 0] := by decide +kernel
/-- Point `t` works on block `t` of the weights' rows. -/
theorem idx_1 : ∀ t : Fin cfg0.N, win0_1.index t = ![t.val, 0] := by decide +kernel
/-- Point `t` works on block `t` of the biases. -/
theorem idx_2 : ∀ t : Fin cfg0.N, win0_2.index t = ![0, t.val] := by decide +kernel
/-- Point `t` writes block `t` of the columns. -/
theorem idx_3 : ∀ t : Fin cfg0.N, win0_3.index t = ![0, t.val] := by decide +kernel

/-- A point's block lies inside the array. -/
theorem lt_blk (t : Fin cfg0.N) (k : Fin 256) : 256 * t.val + k.val < 12288 := by
  have h : t.val < 48 := t.isLt
  omega

/-- An element of the window on the weights, in the weights. -/
theorem emb_1 (t : Fin cfg0.N) (j : S256x12288.Idx) :
    ((cfg0.win 1).blk t).view.emb j = (ix2 ⟨256 * t.val + (j 0).val, lt_blk t (j 0)⟩ (j 1) : S12288x12288.Idx) := by
  funext ax
  apply Fin.ext
  refine (Pipeline.Window.rect_emb_val win0_1 t j ax).trans ?_
  rw [idx_1]
  match ax with
  | 0 => show t.val * 256 + (j 0).val = 256 * t.val + (j 0).val; omega
  | 1 => show 0 * 12288 + (j 1).val = (j 1).val; omega

/-- An element of the window on the biases, in the biases. -/
theorem emb_2 (t : Fin cfg0.N) (j : S1x256.Idx) :
    ((cfg0.win 2).blk t).view.emb j = (ix2 0 ⟨256 * t.val + (j 1).val, lt_blk t (j 1)⟩ : S1x12288.Idx) := by
  funext ax
  apply Fin.ext
  refine (Pipeline.Window.rect_emb_val win0_2 t j ax).trans ?_
  rw [idx_2]
  match ax with
  | 0 => show 0 * 1 + (j 0).val = 0; have : (j 0).val < 1 := (j 0).isLt; omega
  | 1 => show t.val * 256 + (j 1).val = 256 * t.val + (j 1).val; omega

/-- An element of the window on the product, in the product. -/
theorem emb_3 (t : Fin cfg0.N) (j : S32x256.Idx) :
    ((cfg0.win 3).blk t).view.emb j = (ix2 (j 0) ⟨256 * t.val + (j 1).val, lt_blk t (j 1)⟩ : S32x12288.Idx) := by
  funext ax
  apply Fin.ext
  refine (Pipeline.Window.rect_emb_val win0_3 t j ax).trans ?_
  rw [idx_3]
  match ax with
  | 0 => show 0 * 32 + (j 0).val = (j 0).val; omega
  | 1 => show t.val * 256 + (j 1).val = 256 * t.val + (j 1).val; omega

/-- After the whole call the product's array is the value written plainly above. -/
theorem out_eq (c : Dev nD) : (dat V c).arrAt 3 cfg0.N = gemmAll (V c main_v1) (V c main_arg2) (V c main_v2) := by
  refine (dat V c).arrAt_eq_of_covers 3 _ (by decide +kernel) fun t hf y => ?_
  have hx : blkOf V c 0 t = V c main_v1 := by
    funext j
    show V c main_v1 (((cfg0.win 0).blk t).view.emb j) = V c main_v1 j
    congr 1
    funext ax
    apply Fin.ext
    refine (Pipeline.Window.rect_emb_val win0_0 t j ax).trans ?_
    rw [idx_0]
    match ax with
    | 0 => show 0 * 32 + (j 0).val = (j 0).val; omega
    | 1 => show 0 * 12288 + (j 1).val = (j 1).val; omega
  have hw : blkOf V c 1 t = fun j : S256x12288.Idx => V c main_arg2 (ix2 ⟨256 * t.val + (j 0).val, lt_blk t (j 0)⟩ (j 1)) := by
    funext j
    exact congrArg (V c main_arg2) (emb_1 t j)
  have hb : blkOf V c 2 t = fun j : S1x256.Idx => V c main_v2 (ix2 0 ⟨256 * t.val + (j 1).val, lt_blk t (j 1)⟩) := by
    funext j
    exact congrArg (V c main_v2) (emb_2 t j)
  refine Eq.trans ?_ (congrArg (gemmAll (V c main_v1) (V c main_arg2) (V c main_v2)) (emb_3 t y)).symm
  show k0_pay1 (blkOf V c 2 t) (blkOf V c 0 t) (blkOf V c 1 t) y = _
  rw [hx, hw, hb]
  have hy : (y 1).val < 256 := (y 1).isLt
  have h1 : (256 * t.val + (y 1).val) / 256 = t.val := by omega
  have h2 : (256 * t.val + (y 1).val) % 256 = (y 1).val := by omega
  have key : ∀ (n : ℕ) (hn : ∀ k : Fin 256, 256 * n + k.val < 12288) (e : t.val = n) (k : ℕ) (hk : k < 256) (e' : (y 1).val = k),
      k0_pay1 (fun j : S1x256.Idx => V c main_v2 (ix2 0 ⟨256 * t.val + (j 1).val, lt_blk t (j 1)⟩)) (V c main_v1)
          (fun j : S256x12288.Idx => V c main_arg2 (ix2 ⟨256 * t.val + (j 0).val, lt_blk t (j 0)⟩ (j 1))) y
        = k0_pay1 (fun j : S1x256.Idx => V c main_v2 (ix2 0 ⟨256 * n + (j 1).val, hn (j 1)⟩)) (V c main_v1)
          (fun j : S256x12288.Idx => V c main_arg2 (ix2 ⟨256 * n + (j 0).val, hn (j 0)⟩ (j 1))) (ix2 (y 0) ⟨k, hk⟩) := by
    rintro n hn rfl k hk rfl
    exact congrArg _ (eq_ix2 (y : S32x256.Idx))
  exact key _ (fun k => lt_col (lt_blk t (y 1)) k) h1.symm _ (Nat.mod_lt _ (by decide)) h2.symm

end Cert.Proof.Ki

end
-- ==== Proof.Ideal.Launch.lean ====
/- The run of the whole program: the operations before the matrix product, its call, the reshape after it, the
   SparseCore call, from the launch's ghost state to the memory at the end. -/
module

public import proofs.«01_k».proof.Proof.Ideal.Region

@[expose] public section

set_option maxRecDepth 16384

noncomputable section

namespace Cert.Proof.Ki

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type}

local notation "𝕄" => MT nD τ sig (HIx 1) (Elt F) ℕ UU ℕ

/-! ## Where the ghost states live -/

/-- The handshakes' rounds in the whole ghost state. -/
def EH : Emb UH (MT nD τ sig (HIx 1) (Elt F) ℕ UU ℕ) :=
  ((Emb.inl : Emb UH (UH × UP)).trans (Emb.inl : Emb (UH × UP) UU)).trans
    (uEmb (nD := nD) (sig := sig) (Ix := HIx 1) (Val := Elt F) (Name := ℕ) (U := UU) (Lvl := ℕ)).toEmb
/-- The pipeline's rounds in the whole ghost state. -/
def EP : Emb UP (MT nD τ sig (HIx 1) (Elt F) ℕ UU ℕ) :=
  ((Emb.inr : Emb UP (UH × UP)).trans (Emb.inl : Emb (UH × UP) UU)).trans
    (uEmb (nD := nD) (sig := sig) (Ix := HIx 1) (Val := Elt F) (Name := ℕ) (U := UU) (Lvl := ℕ)).toEmb

instance EH_landsIn : (EH : Emb UH 𝕄).LandsIn (upEmb : UEmb _ 𝕄) := by unfold EH; infer_instance
instance EP_landsIn : (EP : Emb UP 𝕄).LandsIn (upEmb : UEmb _ 𝕄) := by unfold EP; infer_instance

/-- The two rounds' launch elements, each where it lives. -/
theorem ownU_split (a : UH) (b : UP) : (ownU ((a, b), 1) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (Prod.mk_mem_op (URA.mem_op_one a) (URA.mem_one_op b)) (URA.mem_op_one 1)))

variable [FloatOps F]

/-- The launch's ghost state. -/
def u₀ : UU := ((initOf (K (F := F)).hsCells (K (F := F)).hsToks,
  initOf (Pipeline.cells (nD := nD) (τ := τ) cfgs cellOf_inj) (Pipeline.launchToks cfgs cellOf_inj)), 1)

/-- What the launch deals a device for the matrix product's pipeline. -/
abbrev Gp (d : Dev nD) : sProp 𝕄 :=
  iprop(Pipeline.cellsGhost (Pipeline.pin (pcfgs (F := F)) adm) EP 0 d ∗ Pipeline.toksInit (Pipeline.pin (pcfgs (F := F)) adm) EP 0 d)

variable (X : (d : Dev nD) → Buf (Elt F) (xLoc d)) (G : (d : Dev nD) → Buf (Elt F) (gLoc d)) (R : (d : Dev nD) → Buf (Elt F) (oLoc d))

/-- The launch's ghost state split between the handshakes and the pipeline. -/
theorem hu₀ : (ownU (u₀ (F := F)) : sProp 𝕄)
    ⊢ |={Set.univ}=> iprop(BI.own (EH (initOf (K (F := F)).hsCells (K (F := F)).hsToks)) ∗ (bigSep Finset.univ fun d : Dev nD => Gp (F := F) d)
        ∗ bigSep Finset.univ fun thr : Thread nD τ => bigSep Finset.univ fun q : Fin 1 => (P (F := F) X G R).x q thr) := by
  unfold u₀
  iintro Hu
  ihave H := (ownU_split _ _) $$ Hu
  icases H with ⟨HH, HP⟩
  imod (Pipeline.fund_ghost (Pipeline.pin (pcfgs (F := F)) adm) EP cellOf_inj) $$ HP with ⟨Hc, Ht⟩
  imodintro
  isplitl [HH]; · iexact HH
  isplitl [Hc Ht]
  · rw [bigSep_sep']
    isplitl [Hc]
    · iapply (Entails.of_eq (bigSep_congr fun (c : Dev nD) _ => bigSep_univ_of_subsingleton (0 : Fin 1))) $$ Hc
    · iapply (Entails.of_eq (bigSep_congr fun (c : Dev nD) _ => bigSep_univ_of_subsingleton (0 : Fin 1))) $$ Ht
  unfold P
  dsimp only
  rw [show (bigSep (Finset.univ : Finset (Thread nD τ)) fun _ => bigSep (Finset.univ : Finset (Fin 1)) fun _ => (iprop(emp) : sProp 𝕄)) = iprop(emp) from
    (bigSep_congr fun _ _ => bigSep_emp_const _).trans (bigSep_emp_const _)]
  iempintro

/-! ## The arrays' contents along the program -/

variable (m : (ℓ : Loc nD τ sig) → Buf (Elt F) ℓ) (ρ : Dev nD → PrngReg)

abbrev op0 : HloOp τ sig (Elt F) := StableHlo.reshape main_arg0 main_v0 (rfl : (.f32 : EltTy) = .f32) shapeCasts_S32x3x64x64_S32x12288
abbrev op1 : HloOp τ sig (Elt F) := StableHlo.unary main_v0 main_v1
  ((truncf .bf16 · bitsLt_bf16_f32) : (⟨S32x12288, .f32⟩ : BufTy).Contents (Elt F) → (⟨S32x12288, .bf16⟩ : BufTy).Contents (Elt F))
abbrev op2 : HloOp τ sig (Elt F) := StableHlo.reshape main_arg3 main_v2 (rfl : (.f32 : EltTy) = .f32) shapeCasts_S12288_S1x12288
abbrev op4 : HloOp τ sig (Elt F) := StableHlo.reshape main_v3 main_v4 (rfl : (.f32 : EltTy) = .f32) shapeCasts_S32x12288_S32x3x4096

/-- The contents at the launch, -/
def W0 (d : Dev nD) : Valuation τ sig (Elt F) := fun b => m (d, b)
/-- before the matrix product, -/
def W3 (d : Dev nD) : Valuation τ sig (Elt F) := op2.result (op1.result (op0.result (W0 m d)))
/-- the product itself, -/
def prod (d : Dev nD) : Vec F S32x12288 .f32 :=
  gemmAll (W3 m d (Proc.devRef .tc main_v1)) (W3 m d (Proc.devRef .tc main_arg2)) (W3 m d (Proc.devRef .tc main_v2))
/-- after it, -/
def W4 (d : Dev nD) : Valuation τ sig (Elt F) := Function.update (W3 m d) (Proc.devRef .tc main_v3) (prod m d)
/-- and when the SparseCore call is made. -/
def W5 (d : Dev nD) : Valuation τ sig (Elt F) := op4.result (W4 m d)

/-- The values the SparseCore call pools. -/
def pooled (d : Dev nD) : Vec F S32x3x4096 .f32 :=
  shapeCast S32x3x4096 (gemmAll (truncf .bf16 (shapeCast S32x12288 (m (d, Proc.devRef .tc main_arg0)) shapeCasts_S32x3x64x64_S32x12288) bitsLt_bf16_f32)
    (m (d, Proc.devRef .tc main_arg2)) (shapeCast S1x12288 (m (d, Proc.devRef .tc main_arg3)) shapeCasts_S12288_S1x12288)) shapeCasts_S32x12288_S32x3x4096

/-- The operations before the product leave every other array as it was. -/
theorem W3_ne (d : Dev nD) (r : Ref sig .tc) (h0 : r ≠ main_v0) (h1 : r ≠ main_v1) (h2 : r ≠ main_v2) :
    W3 m d (Proc.devRef .tc r) = m (d, Proc.devRef .tc r) := by
  unfold W3
  rw [StableHlo.reshape_result_ne _ _ _ _ _ _ _ h2, StableHlo.unary_result_ne _ _ _ _ _ _ h1, StableHlo.reshape_result_ne _ _ _ _ _ _ _ h0]
  rfl

/-- So do all the operations before the SparseCore call. -/
theorem W5_ne (d : Dev nD) (r : Ref sig .tc) (h0 : r ≠ main_v0) (h1 : r ≠ main_v1) (h2 : r ≠ main_v2) (h3 : r ≠ main_v3) (h4 : r ≠ main_v4) :
    W5 m d (Proc.devRef .tc r) = m (d, Proc.devRef .tc r) := by
  unfold W5
  rw [StableHlo.reshape_result_ne _ _ _ _ _ _ _ h4]
  unfold W4
  rw [Function.update_of_ne (StableHlo.devRef_ne_of_ne h3), W3_ne m d r h0 h1 h2]

/-- The array that the SparseCore call reads holds the pooled values. -/
theorem W5_v4 (d : Dev nD) : W5 m d (Proc.devRef .tc main_v4) = pooled m d := by
  unfold W5
  rw [StableHlo.reshape_result]
  unfold W4
  rw [Function.update_self]
  unfold prod pooled
  rw [W3_ne m d main_arg2 (by decide) (by decide) (by decide)]
  unfold W3
  rw [StableHlo.reshape_result, StableHlo.reshape_result_ne _ _ _ _ _ _ _ (by decide), StableHlo.unary_result, StableHlo.reshape_result,
    StableHlo.unary_result_ne _ _ _ _ _ _ (by decide), StableHlo.reshape_result_ne _ _ _ _ _ _ _ (by decide)]
  rfl

/-! ## The program on the TensorCore -/

/-- The TensorCore's arrays, in a row. -/
theorem unscopedBufs_eq (d : Dev nD) (W : (b : Ref sig .tc) → Buf (Elt F) ((d.tc : Thread nD τ).loc b)) :
    (unscopedBufs d W : sProp 𝕄)
      = iprop((xLoc d ↦{fullShare} W main_v4) ∗ (gLoc d ↦{fullShare} W main_arg1) ∗ (oLoc d ↦{fullShare} W main_v5)
          ∗ (((d.tc : Thread nD τ).loc main_arg0) ↦{fullShare} W main_arg0) ∗ (((d.tc : Thread nD τ).loc main_arg2) ↦{fullShare} W main_arg2)
          ∗ (((d.tc : Thread nD τ).loc main_arg3) ↦{fullShare} W main_arg3)
          ∗ (((d.tc : Thread nD τ).loc main_v0) ↦{fullShare} W main_v0) ∗ (((d.tc : Thread nD τ).loc main_v1) ↦{fullShare} W main_v1)
          ∗ (((d.tc : Thread nD τ).loc main_v2) ↦{fullShare} W main_v2) ∗ (((d.tc : Thread nD τ).loc main_v3) ↦{fullShare} W main_v3)) := by
  unfold unscopedBufs
  rw [show (Finset.univ.filter fun b : Ref sig .tc => ¬ b.isScoped)
      = {main_v4, main_arg1, main_v5, main_arg0, main_arg2, main_arg3, main_v0, main_v1, main_v2, main_v3} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

/-- The TensorCore's arrays as a set held at a valuation. -/
abbrev ucRefs : Finset (DevRef τ sig) := (StableHlo.tcRefs τ sig).filter fun b => ¬ b.isScoped

/-- The arrays of a device, held one by one, are the arrays held by a valuation. -/
theorem unscopedBufs_held (d : Dev nD) (W : Valuation τ sig (Elt F)) :
    (unscopedBufs d (fun b => W (Proc.devRef .tc b)) : sProp 𝕄) = held (T d : Thread nD τ) ucRefs W := by
  unfold unscopedBufs held ucRefs StableHlo.tcRefs
  rw [Finset.filter_map, bigSep_map]
  rfl

/-- The arrays each host operation touches are among those held. -/
theorem op0_sub : (op0 (F := F)).bufs ⊆ ucRefs := show ({Proc.devRef .tc main_arg0, Proc.devRef .tc main_v0} : Finset (DevRef τ sig)) ⊆ ucRefs by decide
/-- Likewise the cast. -/
theorem op1_sub : (op1 (F := F)).bufs ⊆ ucRefs := show ({Proc.devRef .tc main_v0, Proc.devRef .tc main_v1} : Finset (DevRef τ sig)) ⊆ ucRefs by decide
/-- Likewise the reshape of the bias. -/
theorem op2_sub : (op2 (F := F)).bufs ⊆ ucRefs := show ({Proc.devRef .tc main_arg3, Proc.devRef .tc main_v2} : Finset (DevRef τ sig)) ⊆ ucRefs by decide
/-- Likewise the reshape of the product. -/
theorem op4_sub : (op4 (F := F)).bufs ⊆ ucRefs := show ({Proc.devRef .tc main_v3, Proc.devRef .tc main_v4} : Finset (DevRef τ sig)) ⊆ ucRefs by decide

/-- The contents before and after the matrix product's call, buffer by buffer. -/
abbrev Vb (c : Dev nD) (b : Ref sig .tc) : Buf (Elt F) ((c : Dev nD).tc.loc b : Loc nD τ sig) := W3 m c (Proc.devRef .tc b)
abbrev Va (c : Dev nD) (b : Ref sig .tc) : Buf (Elt F) ((c : Dev nD).tc.loc b : Loc nD τ sig) := W4 m c (Proc.devRef .tc b)

/-- After the product's call its result array holds what the grid wrote. -/
theorem Va_out (c : Dev nD) : Va m c main_v3 = (dat (Vb m) c).arrAt 3 cfg0.N := by
  rw [out_eq]
  exact Function.update_self _ _ _
/-- Every other array is as before the call. -/
theorem Va_ne (c : Dev nD) (b : Ref sig .tc) (h : b ≠ main_v3) : Va m c b = Vb m c b :=
  Function.update_of_ne (StableHlo.devRef_ne_of_ne h) _ _

/-- The pipeline's cells are pairwise distinct. -/
theorem pin_inj : Function.Injective (Pipeline.cellOf (nD := nD) (τ := τ) (Pipeline.pin (pcfgs (F := F)) adm)) := cellOf_inj

variable [∀ e, Nonempty (Elt F e)]

/-- The matrix product's call: the boundary and the arrays before it to the boundary and the arrays after it. -/
theorem gemmCall₀ (d : Dev nD) (Q : PUnit → sProp 𝕄) :
    iprop((iprop(boundary (T d) ∗ (unscopedBufs d (Va m d) ∗ ∃ W, ⌜(K (F := F)).WBelow (T d) W 0⌝ ∗ owes (T d) ((K (F := F)).Otc d 0) W)) -∗ Q ⟨⟩)
        ∗ boundary (T d) ∗ (unscopedBufs d (Vb m d) ∗ ∃ W, ⌜(K (F := F)).WBelow (T d) W 0⌝ ∗ owes (T d) ((K (F := F)).Otc d 0) W)
        ∗ levAts (K (F := F)).L (K (F := F)).lev ∗ Gp d)
      ⊢ wp frame (wpE (D (F := F)) 𝒱 (T d) none) Set.univ (.op (.customCall (Pipeline.entry 0) ()) (fun x => .ret x)) Q := by
  have h := Pipeline.RegionSeg.wp (pcfgs (F := F)) adm (pdats (Vb m)) none pin_inj EP defs₀ 𝒱₀ (K (F := F)).L (K (F := F)).lev
    (reg (Vb m) (Va m) (Va_out m) (Va_ne m)) d none (fun u hu => absurd hu (Option.not_mem_none u)) (fun x => .ret x) Q
  have e₁ : (reg (Vb m) (Va m) (Va_out m) (Va_ne m)).pre d
      = iprop(unscopedBufs d (Vb m d) ∗ ∃ W, ⌜(K (F := F)).WBelow (T d) W 0⌝ ∗ owes (T d) ((K (F := F)).Otc d 0) W) := rfl
  have e₂ : (reg (Vb m) (Va m) (Va_out m) (Va_ne m)).post d
      = iprop(unscopedBufs d (Va m d) ∗ ∃ W, ⌜(K (F := F)).WBelow (T d) W 0⌝ ∗ owes (T d) ((K (F := F)).Otc d 0) W) := rfl
  rw [e₁, e₂] at h
  refine (?_ : _ ⊢ _).trans h
  iintro ⟨Hk, Hb, Hpre, Hl, Hc, Ht⟩
  isplitl [Hk]
  · iintro ⟨Hb, Hpost⟩
    rw [wp_ret]; imodintro
    iapply Hk
    isplitl [Hb]; · iexact Hb
    iexact Hpost
  isplitl [Hb]; · iexact Hb
  isplitl [Hpre]; · iexact Hpre
  isplitl [Hl]; · iexact Hl
  isplitl [Hc]; · iexact Hc
  iexact Ht

/-- The same in the whole program's table of bodies. -/
theorem gemmCall (d : Dev nD) (Q : PUnit → sProp 𝕄) :
    iprop((iprop(boundary (T d) ∗ (unscopedBufs d (Va m d) ∗ ∃ W, ⌜(K (F := F)).WBelow (T d) W 0⌝ ∗ owes (T d) ((K (F := F)).Otc d 0) W)) -∗ Q ⟨⟩)
        ∗ boundary (T d) ∗ (unscopedBufs d (Vb m d) ∗ ∃ W, ⌜(K (F := F)).WBelow (T d) W 0⌝ ∗ owes (T d) ((K (F := F)).Otc d 0) W)
        ∗ levAts (K (F := F)).L (K (F := F)).lev ∗ Gp d)
      ⊢ wp frame (wpE ((K (F := F)).defs (D (F := F))) 𝒱 (T d) none) Set.univ
          (Prog.lift (.customCall (SparseCore.inner (Pipeline.entry 0)) ())) Q :=
  (gemmCall₀ m d Q).trans ((K (F := F)).wp_liftProg (D (F := F)) 𝒱 (T d) Set.univ none (.op (.customCall (Pipeline.entry 0) ()) (fun x => .ret x)) Q)

/-- The arrays when the SparseCore call is made. -/
theorem held_W5 (d : Dev nD) :
    (held (T d : Thread nD τ) ucRefs (op4.result (W4 m d)) : sProp 𝕄)
      = iprop((xLoc d ↦{fullShare} pooled m d) ∗ (gLoc d ↦{fullShare} m (gLoc d)) ∗ (oLoc d ↦{fullShare} m (oLoc d))
          ∗ (((d.tc : Thread nD τ).loc main_arg0) ↦{fullShare} m ((d.tc : Thread nD τ).loc main_arg0))
          ∗ (((d.tc : Thread nD τ).loc main_arg2) ↦{fullShare} m ((d.tc : Thread nD τ).loc main_arg2))
          ∗ (((d.tc : Thread nD τ).loc main_arg3) ↦{fullShare} m ((d.tc : Thread nD τ).loc main_arg3))
          ∗ (((d.tc : Thread nD τ).loc main_v0) ↦{fullShare} W5 m d (Proc.devRef .tc main_v0)) ∗ (((d.tc : Thread nD τ).loc main_v1) ↦{fullShare} W5 m d (Proc.devRef .tc main_v1))
          ∗ (((d.tc : Thread nD τ).loc main_v2) ↦{fullShare} W5 m d (Proc.devRef .tc main_v2)) ∗ (((d.tc : Thread nD τ).loc main_v3) ↦{fullShare} W5 m d (Proc.devRef .tc main_v3))) := by
  refine ((unscopedBufs_held d (W5 m d)).symm.trans (unscopedBufs_eq d _)).trans ?_
  rw [W5_v4, W5_ne m d main_arg1 (by decide) (by decide) (by decide) (by decide) (by decide), W5_ne m d main_v5 (by decide) (by decide) (by decide) (by decide) (by decide),
    W5_ne m d main_arg0 (by decide) (by decide) (by decide) (by decide) (by decide), W5_ne m d main_arg2 (by decide) (by decide) (by decide) (by decide) (by decide),
    W5_ne m d main_arg3 (by decide) (by decide) (by decide) (by decide) (by decide)]

/-- What the program leaves: the arguments as they were, the means of the pooled values in the result. -/
abbrev FIN (d : Dev nD) : sProp 𝕄 :=
  iprop((gLoc d ↦{fullShare} m (gLoc d)) ∗ (oLoc d ↦{fullShare} outAll (pooled m d) (m (gLoc d)))
    ∗ (((d.tc : Thread nD τ).loc main_arg0) ↦{fullShare} m ((d.tc : Thread nD τ).loc main_arg0))
    ∗ (((d.tc : Thread nD τ).loc main_arg2) ↦{fullShare} m ((d.tc : Thread nD τ).loc main_arg2))
    ∗ (((d.tc : Thread nD τ).loc main_arg3) ↦{fullShare} m ((d.tc : Thread nD τ).loc main_arg3)))

/-- What the SparseCore call is given. -/
abbrev Pm : (K (F := F)).Pay (nD := nD) (Val := Elt F) (Name := ℕ) (U := UU) :=
  P (F := F) (fun d => pooled m d) (fun d => m (gLoc d)) (fun d => m (oLoc d))

set_option backward.isDefEq.respectTransparency.types false in
/-- The program on a device's TensorCore. -/
theorem hmain (κ : GSem nD τ sig → ℕ) (d : Dev nD) :
    iprop((K (F := F)).ctx EH (Pm m) κ ∗ (K (F := F)).tcSt EH d 0 ∗ (K (F := F)).tcRes m ρ d ∗ Gp d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d : Thread nD τ).loc b)) : sProp 𝕄) = held (T d : Thread nD τ) ucRefs (W0 m d) from
    unscopedBufs_held d (W0 m d)]
  simp only [main, wp_bind, wp_pure]
  iintro ⟨#Hctx, Hst, ⟨Hb, Hh, Hts, -⟩, Hg⟩
  iapply (wp_hlo_within 𝒱 (SparseCore.T d) none Set.univ (op := op0) (S := ucRefs) op0_sub (V := W0 m d)) $$ [Hb Hh]
  · isplitl [Hb] <;> iassumption
  iintro ⟨Hb, Hh⟩
  rw [wp_ret]; imodintro
  iapply (wp_hlo_within 𝒱 (SparseCore.T d) none Set.univ (op := op1) (S := ucRefs) op1_sub) $$ [Hb Hh]
  · isplitl [Hb] <;> iassumption
  iintro ⟨Hb, Hh⟩
  rw [wp_ret]; imodintro
  iapply (wp_hlo_within 𝒱 (SparseCore.T d) none Set.univ (op := op2) (S := ucRefs) op2_sub) $$ [Hb Hh]
  · isplitl [Hb] <;> iassumption
  iintro ⟨Hb, Hh⟩
  rw [wp_ret]; imodintro
  ihave Hub := (Entails.of_eq (show (held (T d : Thread nD τ) ucRefs (op2.result (op1.result (op0.result (W0 m d)))) : sProp 𝕄) = unscopedBufs d (Vb m d) from
    (unscopedBufs_held d (W3 m d)).symm)) $$ Hh
  unfold SparseCore.Cfg.tcSt
  icases Hst with ⟨HO, Hst⟩
  ihave Hlev := ((K (F := F)).ctx_levAts κ) $$ Hctx
  iapply (gemmCall m d _)
  isplitr [Hb Hub HO Hg Hlev]
  · iintro ⟨Hb, Hub, HO⟩
    ihave Hh := (Entails.of_eq (show (unscopedBufs d (Va m d) : sProp 𝕄) = held (T d : Thread nD τ) ucRefs (W4 m d) from unscopedBufs_held d (W4 m d))) $$ Hub
    iapply (wp_hlo_within 𝒱 (SparseCore.T d) none Set.univ (op := op4) (S := ucRefs) op4_sub) $$ [Hb Hh]
    · isplitl [Hb] <;> iassumption
    iintro ⟨Hb, Hh⟩
    rw [wp_ret]; imodintro
    ihave Hub := (Entails.of_eq (held_W5 m d)) $$ Hh
    icases Hub with ⟨Hx, Hgl, Ho, H0, H2, H3, -⟩
    iapply ((K (F := F)).wp_run (D (F := F)) 𝒱 (EH := EH) (P := Pm m) κ d 0) $$ [Hst HO Hx Hgl Ho Hb Hts H0 H2 H3]
    isplitr; · iexact Hctx
    isplitl [Hst HO]
    · unfold SparseCore.Cfg.tcSt
      isplitl [HO]; · iexact HO
      iexact Hst
    isplitl [Hx Hgl Ho]
    · rw [st0_eq]
      isplitl [Hx]; · iexact Hx
      isplitl [Hgl]; · iexact Hgl
      iexact Ho
    iintro ⟨Hst, Hdn⟩
    ihave Hdn' := (Entails.of_eq (dn0_eq (fun d => pooled m d) (fun d => m (gLoc d)) (fun d => m (oLoc d)) d)) $$ Hdn
    icases Hdn' with ⟨-, Hgl, Ho⟩
    imodintro
    isplitl [Hst]; · unfold SparseCore.Cfg.tcSt; iexact Hst
    isplitr [Hb Hts]
    · isplitl [Hgl]; · iexact Hgl
      isplitl [Ho]; · iexact Ho
      isplitl [H0]; · iexact H0
      isplitl [H2]; · iexact H2
      iexact H3
    isplitl [Hb] <;> iassumption
  isplitl [Hb]; · iexact Hb
  isplitl [Hub HO]
  · isplitl [Hub]; · iexact Hub
    iexact HO
  isplitl [Hlev]; · iexact Hlev
  iexact Hg

/-! ## The run -/

/-- What the memory then holds. -/
def fq (d : Dev nD) (s' : Phys nD τ sig (Elt F)) : Prop :=
  s'.mem.mem (gLoc d) = m (gLoc d) ∧ s'.mem.mem (oLoc d) = outAll (pooled m d) (m (gLoc d))
    ∧ s'.mem.mem ((d.tc : Thread nD τ).loc main_arg0) = m ((d.tc : Thread nD τ).loc main_arg0)
    ∧ s'.mem.mem ((d.tc : Thread nD τ).loc main_arg2) = m ((d.tc : Thread nD τ).loc main_arg2)
    ∧ s'.mem.mem ((d.tc : Thread nD τ).loc main_arg3) = m ((d.tc : Thread nD τ).loc main_arg3)

/-- A buffer owned whole at contents holds them. -/
theorem holds (s' : Phys nD τ sig (Elt F)) (ℓ : Loc nD τ sig) (f : Buf (Elt F) ℓ) :
    iprop(SI s' ∗ ℓ ↦{fullShare} f) ⊢ (iprop(⌜s'.mem.mem ℓ = f⌝ ∗ SI s' ∗ ℓ ↦{fullShare} f) : sProp 𝕄) := by
  iintro H
  ihave H := (persistent_entails_right (SI_pointsTo_agree (st := s') (ℓ := ℓ) (I := Finset.univ) (q := fullShare) (f := f))) $$ H
  icases H with ⟨%h, HSI, Hp⟩
  isplitr
  · ipureintro; exact funext fun i => h i (Finset.mem_univ i)
  isplitl [HSI] <;> iassumption

/-- What the program holds at the end gives the final memory's contents. -/
theorem hfin (d : Dev nD) (s' : Phys nD τ sig (Elt F)) : iprop(FIN m d ∗ SI s') ⊢ (⌜fq m d s'⌝ : sProp 𝕄) := by
  iintro ⟨⟨H1, H5, H0, H2, H3⟩, HSI⟩
  ihave H := (holds s' (gLoc d) (m (gLoc d))) $$ [HSI H1]
  · isplitl [HSI] <;> iassumption
  icases H with ⟨%h1, HSI, -⟩
  ihave H := (holds s' (oLoc d) (outAll (pooled m d) (m (gLoc d)))) $$ [HSI H5]
  · isplitl [HSI] <;> iassumption
  icases H with ⟨%h5, HSI, -⟩
  ihave H := (holds s' ((d.tc : Thread nD τ).loc main_arg0) (m ((d.tc : Thread nD τ).loc main_arg0))) $$ [HSI H0]
  · isplitl [HSI] <;> iassumption
  icases H with ⟨%h0, HSI, -⟩
  ihave H := (holds s' ((d.tc : Thread nD τ).loc main_arg2) (m ((d.tc : Thread nD τ).loc main_arg2))) $$ [HSI H2]
  · isplitl [HSI] <;> iassumption
  icases H with ⟨%h2, HSI, -⟩
  ihave H := (holds s' ((d.tc : Thread nD τ).loc main_arg3) (m ((d.tc : Thread nD τ).loc main_arg3))) $$ [HSI H3]
  · isplitl [HSI] <;> iassumption
  icases H with ⟨%h3, -, -⟩
  ipureintro; exact ⟨h1, h5, h0, h2, h3⟩

/-- What a run from the launch memory ends with: the values, and every semaphore at zero. -/
def QC : PUnit × MemSt nD τ sig (Elt F) → Prop := fun r =>
  (∀ d : Dev nD, r.2.mem (gLoc d) = m (gLoc d) ∧ r.2.mem (oLoc d) = outAll (pooled m d) (m (gLoc d))
    ∧ r.2.mem ((d.tc : Thread nD τ).loc main_arg0) = m ((d.tc : Thread nD τ).loc main_arg0)
    ∧ r.2.mem ((d.tc : Thread nD τ).loc main_arg2) = m ((d.tc : Thread nD τ).loc main_arg2)
    ∧ r.2.mem ((d.tc : Thread nD τ).loc main_arg3) = m ((d.tc : Thread nD τ).loc main_arg3)) ∧ r.2.sem = fun _ => 0

/-- Labels in range: the program runs, leaves its arguments, and the result holds the means of the pooled values. -/
theorem run_main (hs : ∀ (d : Dev nD) (i : S32x4096.Idx), (m (gLoc d) i : BitVec 32).toNat < 64) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := Pm m) (A := ∅) facts v₀
    (fun q hq => match q with | 0 => nomatch hq)
    (fun q _ => match q with | 0 => tileObl (fun d => pooled m d) (fun d => m (gLoc d)) (fun d => m (oLoc d)) hs)
    (fun q _ => match q with | 0 => SparseCore.Cfg.VecSplit.of_plain (vecSplit (fun d => pooled m d) (fun d => m (gLoc d)) (fun d => m (oLoc d))))
    m ρ main (fun d => Gp (F := F) d) (FIN m) (u₀ (F := F))
    (sep_elim_left.trans (hu₀ (fun d => pooled m d) (fun d => m (gLoc d)) (fun d => m (oLoc d)))) (hmain m ρ) (fq m) (hfin m) (QC m) (fun _ h hz => ⟨h, hz⟩)

end Cert.Proof.Ki

end
-- ==== Proof.Frames.lean ====
/- The frames: each program runs from labels in range, leaves its arguments as they were and every semaphore at zero. -/
module

public import proofs.«01_k».proof.Defs
public import proofs.«01_k».proof.Proof.Ideal.Launch
public import proofs.«01_k».proof.Proof.Float.Launch
public import proofs.«01_k».proof.Proof.Gen.ReferenceIdeal
public import proofs.«01_k».proof.Proof.Gen.ReferenceIdeal.Run
public import proofs.«01_k».proof.Proof.Gen.Pre_labels_in_range

@[expose] public section

noncomputable section

namespace Cert.Proof

open Idealize.ShloMosaic Idealize.SL.Sem

/-- The label test at a word: a word that passes is a label below 64. -/
theorem label_lt (v : BitVec 32) (e : IntOp.andi (IntOp.cmpi .sge v 0#32) (IntOp.cmpi .slt v 64#32) = 1#1) : v.toNat < 64 := by
  have hand (p q : Bool) : IntOp.andi (BitVec.ofBool p) (BitVec.ofBool q) = BitVec.ofBool (p && q) := by cases p <;> cases q <;> rfl
  have hone (p : Bool) : BitVec.ofBool p = 1#1 → p = true := by cases p <;> decide
  unfold IntOp.cmpi at e
  dsimp only at e
  rw [hand] at e
  obtain ⟨h0, h64⟩ := Bool.and_eq_true_iff.mp (hone _ e)
  rw [BitVec.sle_eq_decide, decide_eq_true_eq] at h0
  rw [BitVec.slt_eq_decide, decide_eq_true_eq] at h64
  have e0 : (0#32 : BitVec 32).toInt = 0 := rfl
  have e64 : (64#32 : BitVec 32).toInt = 64 := rfl
  rw [e0] at h0
  rw [e64] at h64
  rw [BitVec.toInt_eq_toNat_cond] at h0 h64
  have := v.isLt
  omega

/-- The precondition, all ones, gives every label below 64. -/
theorem labels_lt {F : FTy → Type} [FloatOps F] (x : FVec F Cert.Pre_labels_in_range.S32x3x64x64 .f32) (g : IVec Cert.Pre_labels_in_range.S32x4096 32)
    (w : FVec F Cert.Pre_labels_in_range.S12288x12288 .f32) (b : FVec F Cert.Pre_labels_in_range.S12288 .f32)
    (h : Cert.Pre_labels_in_range.fn (F := F) x g w b = fun _ => 1#1) (i : Cert.Pre_labels_in_range.S32x4096.Idx) : (g i).toNat < 64 :=
  label_lt _ (congrFun h i)

/-- `Cert.quiescent_Kernel` (Defs.lean): its run read at the arguments and the counters. -/
theorem frame_kernel : Cert.quiescent_Kernel := fun m ρ hpre =>
  (θ_run Cert.Kernel.defs _ _).mono (fun _ h => ⟨fun c => ⟨(h.1 c).2.2.1, (h.1 c).1, (h.1 c).2.2.2.1, (h.1 c).2.2.2.2⟩, h.2⟩)
    (Kf.run_main (F := Bits) m ρ fun d i => labels_lt _ _ _ _ (hpre d) i)

/-- `Cert.quiescent_KernelIdeal`: likewise. -/
theorem frame_ideal : Cert.quiescent_KernelIdeal := fun m ρ hpre =>
  (θ_run Cert.KernelIdeal.defs _ _).mono (fun _ h => ⟨fun c => ⟨(h.1 c).2.2.1, (h.1 c).1, (h.1 c).2.2.2.1, (h.1 c).2.2.2.2⟩, h.2⟩)
    (Ki.run_main (F := Ideal) m ρ fun d i => labels_lt _ _ _ _ (hpre d) i)

/-- `Cert.quiescent_ReferenceIdeal`: the reference's run read at its arguments; it declares no semaphore. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The reference's frame once more, from labels in range. -/
theorem frame_reference_pre : Cert.quiescent_ReferenceIdeal_pre_labels_in_range := fun m ρ _ => frame_reference m ρ trivial

end Cert.Proof

end
-- ==== Proof.Sums.lean ====
/- The tile's arithmetic over the extended reals: each accumulator is a sum over the trips, and a label's lanes together
   are the sum over the pixels that carry the label. -/
module

public import proofs.«01_k».proof.Proof.Spec
public import Idealize.ShloMosaic.Lib.Pipeline.ValueKit
public import Idealize.ShloMosaic.Lib.IdealHost

@[expose] public section

noncomputable section

namespace Cert.Proof

open Idealize.ShloMosaic
open scoped BigOperators

/-- The kernel's zero is zero. -/
theorem zeroF_ideal : (zeroF : Ideal .f32) = 0 := Ideal.ofBits_zero_f32
/-- The kernel's one is one. -/
theorem oneF_ideal : (oneF : Ideal .f32) = 1 := Ideal.ofBits_one_f32

/-- One channel's scatter adds, at a lane's accumulator of a label, that lane's addend if its pixel carries the label. -/
theorem stepCh_place (seg : Seg Ideal) (x : Pix Ideal) (n c' : ℕ) (A : Acc Ideal) {c l s : ℕ} (hc : c < 4) (hl : l < 16) (hs : s < 64) :
    stepCh seg x n c' A (place (1024 * c + 64 * l + s))
      = A (place (1024 * c + 64 * l + s)) + if c = c' then (if (seg (place (16 * n + l))).toNat = s then addend x n c l else 0) else (0 : EReal) := by
  unfold stepCh
  rw [place_val (by omega)]
  rw [show (1024 * c + 64 * l + s) / 1024 = c by omega, show (1024 * c + 64 * l + s) % 1024 / 64 = l by omega,
    show (1024 * c + 64 * l + s) % 64 = s by omega]
  by_cases h1 : c = c'
  · subst h1
    by_cases h2 : (seg (place (16 * n + l))).toNat = s
    · rw [if_pos ⟨rfl, h2⟩, if_pos rfl, if_pos h2]; rfl
    · rw [if_neg fun h => h2 h.2, if_pos rfl, if_neg h2]; exact (add_zero _).symm
  · rw [if_neg fun h => h1 h.1, if_neg h1]; exact (add_zero _).symm

/-- After `N` trips an accumulator is the sum of its lane's addends over the trips whose pixel carries its label. -/
theorem accAt_place (seg : Seg Ideal) (x : Pix Ideal) (N : ℕ) {c l s : ℕ} (hc : c < 4) (hl : l < 16) (hs : s < 64) :
    accAt seg x N (place (1024 * c + 64 * l + s))
      = ∑ n ∈ Finset.range N, if (seg (place (16 * n + l))).toNat = s then addend x n c l else (0 : EReal) := by
  induction N with
  | zero => exact zeroF_ideal
  | succ N ih =>
    rw [Finset.sum_range_succ, ← ih]
    show step seg x N (accAt seg x N) _ = _
    unfold step
    rw [stepCh_place _ _ _ _ _ hc hl hs, stepCh_place _ _ _ _ _ hc hl hs, stepCh_place _ _ _ _ _ hc hl hs, stepCh_place _ _ _ _ _ hc hl hs]
    interval_cases c <;> simp

/-- The lanes' running sum is a sum over the lanes. -/
theorem cumAt_sum (A : Acc Ideal) (c s N : ℕ) :
    cumAt A c s N = ∑ l ∈ Finset.range N, (A (place (1024 * c + 64 * l + s)) : EReal) := by
  induction N with
  | zero => exact zeroF_ideal
  | succ N ih => rw [Finset.sum_range_succ, ← ih]; rfl

/-- A channel's value at a pixel: its value, or one for the counts. -/
def chan (x : Pix Ideal) (c : ℕ) (p : Fin 4096) : EReal := if h : c < 3 then x (ix2 ⟨c, h⟩ p) else 1

/-- What a lane adds is its pixel's value in the channel. -/
theorem addend_chan (x : Pix Ideal) (n c l : ℕ) (h : 16 * n + l < 4096) : addend x n c l = chan x c ⟨16 * n + l, h⟩ := by
  unfold addend chan
  by_cases hc : c < 3
  · rw [dif_pos hc, dif_pos hc]
    congr 2
    exact Fin.ext (Nat.mod_eq_of_lt h)
  · rw [dif_neg hc, dif_neg hc, oneF_ideal]

/-- A channel's sum over trips and lanes at a label is the sum over the pixels that carry the label. -/
theorem total_sum (seg : Seg Ideal) (x : Pix Ideal) {c s : ℕ} (hc : c < 4) (hs : s < 64) :
    cumAt (accAt seg x 256) c s 16 = ∑ p : Fin 4096, if (seg (ix1 p)).toNat = s then chan x c p else 0 := by
  have hf := Finset.sum_range_range_mul_add (M := EReal) 256 16 fun q =>
    if h : q < 4096 then (if (seg (ix1 ⟨q, h⟩)).toNat = s then chan x c ⟨q, h⟩ else 0) else 0
  rw [cumAt_sum, Finset.sum_congr rfl fun l hl => accAt_place seg x 256 hc (Finset.mem_range.1 hl) hs, Finset.sum_comm]
  rw [← Fin.sum_univ_eq_sum_range (n := 256 * 16)] at hf
  refine (Finset.sum_congr rfl fun n hn => Finset.sum_congr rfl fun l hl => ?_).trans (hf.trans (Finset.sum_congr rfl fun p _ => ?_))
  · have h1 := Finset.mem_range.1 hn
    have h2 := Finset.mem_range.1 hl
    have h : n * 16 + l < 4096 := by omega
    have e : (⟨16 * n + l, by omega⟩ : Fin 4096) = ⟨n * 16 + l, h⟩ := Fin.ext (by dsimp only; omega)
    rw [dif_pos h, addend_chan x n c l (by omega), e]
    have e' : place (16 * n + l) = ix1 (⟨n * 16 + l, h⟩ : Fin 4096) := by
      rw [← e]; unfold place; congr 1; exact Fin.ext (Nat.mod_eq_of_lt (by omega))
    rw [e']
  · rw [dif_pos p.isLt]

/-- The row of means: a label's sum of values over its count, at least one. -/
theorem rowMeans_div (seg : Seg Ideal) (x : Pix Ideal) (s : Fin 64) (c : Fin 3) :
    rowMeans seg x (ix2 s c)
      = Ideal.div (∑ p : Fin 4096, if (seg (ix1 p)).toNat = s.val then x (ix2 c p) else 0)
          (max (∑ p : Fin 4096, if (seg (ix1 p)).toNat = s.val then 1 else 0) 1) := by
  have h3 : ∀ p, chan x 3 p = 1 := fun p => by unfold chan; exact dif_neg (by omega)
  have hc : ∀ p, chan x c.val p = x (ix2 c p) := fun p => by unfold chan; exact dif_pos c.isLt
  show cumAt (accAt seg x 256) c.val s.val 16 * Ideal.div (oneF : Ideal .f32) (max (cumAt (accAt seg x 256) 3 s.val 16) (oneF : Ideal .f32)) = _
  rw [total_sum seg x (by omega) s.isLt, total_sum seg x (by omega) s.isLt, oneF_ideal]
  simp only [h3, hc]
  exact Ideal.mul_one_div (ne_of_gt (lt_of_lt_of_le zero_lt_one (le_max_right _ _)))

end Cert.Proof

end
-- ==== Proof.Reference.lean ====
/- The reference over the extended reals: a label's row is the sum of its pixels' values over their count. -/
module

public import proofs.«01_k».proof.Proof.Gen.ReferenceIdeal.Run
public import Idealize.ShloMosaic.Lib.Pipeline.ValueKit
public import Idealize.ShloMosaic.Lib.IdealHost
public import Idealize.ShloMosaic.Lib.Routing.OpsPair

@[expose] public section

noncomputable section

namespace Cert.Proof.Re

open Idealize.ShloMosaic
open Cert.ReferenceIdeal Cert.ReferenceIdeal.Gen
open scoped BigOperators

/-- An update of the values' scatter lands in the row its word names, in its own column. -/
theorem lands_rows (idx : IVec S131072x1 32) (q : Fin 131072) (c' : Fin 3) (R : Fin 2048) (c : Fin 3) :
    scatter_S2048x3_S131072x1_S131072x3_1_0_0_1.resultIdx? (ix2 q c') idx = some (ix2 R c) ↔ (idx (ix2 q 0)).toInt = (R.val : Int) ∧ c' = c := by
  have h0 : scatter_S2048x3_S131072x1_S131072x3_1_0_0_1.start (ix2 q c') idx 0 = (idx (ix2 q 0)).toInt := by
    show (idx _).toInt = _
    congr 2
    funext b
    match b with
    | 0 => rfl
    | 1 => rfl
  have h1 : scatter_S2048x3_S131072x1_S131072x3_1_0_0_1.start (ix2 q c') idx 1 = 0 := rfl
  have w0 : scatter_S2048x3_S131072x1_S131072x3_1_0_0_1.window (ix2 q c') 0 = 0 := rfl
  have w1 : scatter_S2048x3_S131072x1_S131072x3_1_0_0_1.window (ix2 q c') 1 = c'.val := rfl
  rw [Routing.resultIdx?_eq_some]
  constructor
  · intro h
    have e0 := h 0
    have e1 := h 1
    rw [h0, w0] at e0
    rw [h1, w1] at e1
    refine ⟨by simpa using e0, Fin.ext ?_⟩
    have : ((c'.val : ℕ) : Int) = (c.val : Int) := by simpa using e1
    exact_mod_cast this
  · rintro ⟨e, rfl⟩ a
    match a with
    | 0 => rw [h0, w0, e]; exact add_zero _
    | 1 => rw [h1, w1]; exact zero_add _

/-- An update of the counts' scatter lands at the place its word names. -/
theorem lands_counts (idx : IVec S131072x1 32) (q : Fin 131072) (R : Fin 2048) :
    scatter_S2048_S131072x1_S131072_n_0_0_1.resultIdx? (ix1 q) idx = some (ix1 R) ↔ (idx (ix2 q 0)).toInt = (R.val : Int) := by
  have h0 : scatter_S2048_S131072x1_S131072_n_0_0_1.start (ix1 q) idx 0 = (idx (ix2 q 0)).toInt := by
    show (idx _).toInt = _
    congr 2
    funext b
    match b with
    | 0 => rfl
    | 1 => rfl
  have w0 : scatter_S2048_S131072x1_S131072_n_0_0_1.window (ix1 q) 0 = 0 := rfl
  rw [Routing.resultIdx?_eq_some]
  constructor
  · intro h
    have e0 := h 0
    rw [h0, w0] at e0
    simpa using e0
  · intro e a
    match a with
    | 0 => rw [h0, w0, e]; exact add_zero _

/-- The words of the flattened labels: a pixel's label, sixty-four further for each image before its own. -/
def words (g : IVec S32x4096 32) : IVec S131072x1 32 :=
  broadcastInDim S131072x1 ![0] bcast_S131072_S131072x1_0 (shapeCast _ (addi g (broadcastInDim S32x4096 ![0, 1] bcast_S32x1_S32x4096_0_1 (muli (broadcastInDim S32x1 ![] bcast_S_S32x1 (constantI S_ 32 64#32)) (broadcastInDim S32x1 ![0] bcast_S32_S32x1_0 (iotaInDim S32 32 0))))) shapeCasts_S32x4096_S131072)

/-- Image `r`'s pixel `p` has the word of `64 r` plus its label. -/
theorem words_at (g : IVec S32x4096 32) (r : Fin 32) (p : Fin 4096) (h : (g (ix2 r p)).toNat < 64) (q : Fin 131072) (hq : q.val = r.val * 4096 + p.val) :
    (words g (ix2 q 0)).toInt = ((64 * r.val + (g (ix2 r p)).toNat : ℕ) : Int) := by
  unfold words
  pointwise
  have e1 : q.val / 4096 = r.val := by have := p.isLt; omega
  have e2 : (⟨q.val % 4096, Nat.mod_lt _ (by norm_num)⟩ : Fin 4096) = p := Fin.ext (by have := p.isLt; dsimp only; omega)
  have e3 : (⟨q.val / 4096, by omega⟩ : Fin 32) = r := Fin.ext e1
  rw [e2, e3, e1]
  have e : (IntOp.addi (g (ix2 r p)) (IntOp.muli 64#32 (BitVec.ofNat 32 r.val))).toNat = 64 * r.val + (g (ix2 r p)).toNat := by
    have hr := r.isLt
    show (g (ix2 r p) + 64#32 * BitVec.ofNat 32 r.val).toNat = _
    simp only [BitVec.toNat_add, BitVec.toNat_mul, BitVec.toNat_ofNat]
    omega
  rw [BitVec.toInt_eq_toNat_of_lt (by rw [e]; have := r.isLt; omega), e]

/-- A sum over the pixels of all images whose flattened label names one image's label is the sum over that image's. -/
theorem sum_words (g : IVec S32x4096 32) (hg : ∀ i, (g i).toNat < 64) (f : Fin 131072 → EReal) (r : Fin 32) (s : Fin 64) :
    (∑ q : Fin 131072, if (words g (ix2 q 0)).toInt = ((64 * r.val + s.val : ℕ) : Int) then f q else 0)
      = ∑ p : Fin 4096, if (g (ix2 r p)).toNat = s.val then f ⟨r.val * 4096 + p.val, by omega⟩ else 0 := by
  have hw : ∀ (r' : Fin 32) (p : Fin 4096) (h : r'.val * 4096 + p.val < 131072),
      (words g (ix2 ⟨r'.val * 4096 + p.val, h⟩ 0)).toInt = ((64 * r'.val + (g (ix2 r' p)).toNat : ℕ) : Int) :=
    fun r' p h => words_at g r' p (hg _) _ rfl
  refine (Fin.sum_mul_add_fin (S := 32) (n := 4096) (fun q : Fin 131072 =>
    if (words g (ix2 q 0)).toInt = ((64 * r.val + s.val : ℕ) : Int) then f q else 0)).symm.trans ?_
  refine (Finset.sum_eq_single r (fun r' _ hr => Finset.sum_eq_zero fun p _ => ?_) fun h => absurd (Finset.mem_univ _) h).trans ?_
  · rw [hw, if_neg]
    intro h
    have h' : 64 * r'.val + (g (ix2 r' p)).toNat = 64 * r.val + s.val := by exact_mod_cast h
    have := hg (ix2 r' p)
    have := s.isLt
    exact hr (Fin.ext (by omega))
  · refine Finset.sum_congr rfl fun p _ => ?_
    rw [hw]
    congr 1
    exact propext ⟨fun h => by have h' : 64 * r.val + (g (ix2 r p)).toNat = 64 * r.val + s.val := by exact_mod_cast h
                               omega, fun h => by rw [h]⟩

/-- The values the reference pools, one row per image. -/
def vals (a : FVec Ideal S32x3x64x64 .f32) (w : FVec Ideal S12288x12288 .f32) (b : FVec Ideal S12288 .f32) : FVec Ideal S32x12288 .f32 :=
  addf (Host.dotGeneral dot_S32x12288_S12288x12288_S32x12288_1_0_0_1_n_n none (shapeCast _ a shapeCasts_S32x3x64x64_S32x12288) (transpose S12288x12288 [1, 0] w transposes_S12288x12288_S12288x12288_1_0)) (broadcastInDim S32x12288 ![0, 1] bcast_S1x12288_S32x12288_0_1 (broadcastInDim S1x12288 ![1] bcast_S12288_S1x12288_1 b))

/-- The reference's sums of values per flattened label. -/
def sums (g : IVec S32x4096 32) (v : FVec Ideal S32x12288 .f32) : FVec Ideal S2048x3 .f32 :=
  Host.scatterAdd scatter_S2048x3_S131072x1_S131072x3_1_0_0_1 (broadcastInDim S2048x3 ![] bcast_S_S2048x3 (constant S_ .f32 0x00000000#32)) (words g)
    (shapeCast _ (transpose S32x4096x3 [0, 2, 1] (shapeCast _ v shapeCasts_S32x12288_S32x3x4096) transposes_S32x3x4096_S32x4096x3_0_2_1) shapeCasts_S32x4096x3_S131072x3)

/-- The reference's counts of pixels per flattened label. -/
def counts (g : IVec S32x4096 32) : FVec Ideal S2048 .f32 :=
  Host.scatterAdd scatter_S2048_S131072x1_S131072_n_0_0_1 (broadcastInDim S2048 ![] bcast_S_S2048 (constant S_ .f32 0x00000000#32)) (words g)
    (broadcastInDim S131072 ![] bcast_S_S131072 (constant S_ .f32 0x3F800000#32))

/-- The quotient the reference ends with. -/
def means (A : FVec Ideal S2048x3 .f32) (B : FVec Ideal S2048 .f32) : FVec Ideal S32x64x3 .f32 :=
  shapeCast _ (Host.divf A (broadcastInDim S2048x3 ![0, 1] bcast_S2048x1_S2048x3_0_1 (broadcastInDim S2048x1 ![0] bcast_S2048_S2048x1_0 (maximumf B (broadcastInDim S2048 ![] bcast_S_S2048 (constant S_ .f32 0x3F800000#32)))))) shapeCasts_S2048x3_S32x64x3

/-- An image's label names a row of the sums. -/
theorem lt_row (r : Fin 32) (s : Fin 64) : 64 * r.val + s.val < 2048 := by omega

/-- The quotient at an image, a label and a channel. -/
theorem means_at (A : FVec Ideal S2048x3 .f32) (B : FVec Ideal S2048 .f32) (r : Fin 32) (s : Fin 64) (c : Fin 3) :
    means A B (ix3 r s c) = Ideal.div (A (ix2 ⟨64 * r.val + s.val, lt_row r s⟩ c)) (max (B (ix1 ⟨64 * r.val + s.val, lt_row r s⟩)) 1) := by
  unfold means
  pointwise
  blk_point []

/-- A value the reference pools: the row by row sum, and the bias. -/
theorem vals_at (a : FVec Ideal S32x3x64x64 .f32) (w : FVec Ideal S12288x12288 .f32) (b : FVec Ideal S12288 .f32) (i : Fin 32) (j : Fin 12288) :
    vals a w b (ix2 i j) = (∑ k : Fin 12288, shapeCast S32x12288 a shapeCasts_S32x3x64x64_S32x12288 (ix2 i k) * w (ix2 j k)) + b (ix1 j) := by
  unfold vals
  generalize (shapeCast S32x12288 a shapeCasts_S32x3x64x64_S32x12288 : FVec Ideal S32x12288 .f32) = x
  pointwise

/-- An image's label's sum: over the image's pixels that carry the label. -/
theorem sums_at (g : IVec S32x4096 32) (hg : ∀ i, (g i).toNat < 64) (v : FVec Ideal S32x12288 .f32) (r : Fin 32) (s : Fin 64) (c : Fin 3) :
    sums g v (ix2 ⟨64 * r.val + s.val, lt_row r s⟩ c)
      = ∑ p : Fin 4096, if (g (ix2 r p)).toNat = s.val then v (ix2 r ⟨c.val * 4096 + p.val, by omega⟩) else 0 := by
  unfold sums
  have hu : ∀ p : Fin 4096, (shapeCast S131072x3 (transpose S32x4096x3 [0, 2, 1] (shapeCast S32x3x4096 v shapeCasts_S32x12288_S32x3x4096) transposes_S32x3x4096_S32x4096x3_0_2_1) shapeCasts_S32x4096x3_S131072x3 : FVec Ideal S131072x3 .f32)
      (ix2 ⟨r.val * 4096 + p.val, by omega⟩ c) = v (ix2 r ⟨c.val * 4096 + p.val, by omega⟩) := fun p => by
    pointwise
  refine Eq.trans ?_ (Finset.sum_congr rfl fun p _ => congrArg (fun z : EReal => if (g (ix2 r p)).toNat = s.val then z else 0) (hu p))
  generalize (shapeCast S131072x3 (transpose S32x4096x3 [0, 2, 1] (shapeCast S32x3x4096 v shapeCasts_S32x12288_S32x3x4096) transposes_S32x3x4096_S32x4096x3_0_2_1) shapeCasts_S32x4096x3_S131072x3 : FVec Ideal S131072x3 .f32) = upd
  show Ideal.hostScatterAdd _ _ _ _ _ = _
  unfold Ideal.hostScatterAdd
  rw [Finset.sum_filter, sum_idx2]
  refine Eq.trans ?_ (sum_words g hg (fun q => upd (ix2 q c)) r s)
  have h0 : (broadcastInDim S2048x3 ![] bcast_S_S2048x3 (constant S_ .f32 0x00000000#32) : FVec Ideal S2048x3 .f32) (ix2 ⟨64 * r.val + s.val, lt_row r s⟩ c) = 0 := by pointwise
  rw [h0]
  refine (zero_add _).trans (Finset.sum_congr rfl fun q _ => ?_)
  refine (Finset.sum_eq_single c (fun c' _ hc => ?_) fun h => absurd (Finset.mem_univ _) h).trans ?_
  · exact if_neg fun h => hc ((lands_rows _ _ _ _ _).1 h).2
  · exact if_congr ((lands_rows _ _ _ _ _).trans (and_iff_left rfl)) rfl rfl

/-- An image's label's count. -/
theorem counts_at (g : IVec S32x4096 32) (hg : ∀ i, (g i).toNat < 64) (r : Fin 32) (s : Fin 64) :
    counts g (ix1 ⟨64 * r.val + s.val, lt_row r s⟩) = ∑ p : Fin 4096, if (g (ix2 r p)).toNat = s.val then 1 else 0 := by
  unfold counts
  show Ideal.hostScatterAdd _ _ _ _ _ = _
  unfold Ideal.hostScatterAdd
  rw [Finset.sum_filter]
  refine Eq.trans ?_ (sum_words g hg (fun _ => 1) r s)
  have h0 : (broadcastInDim S2048 ![] bcast_S_S2048 (constant S_ .f32 0x00000000#32) : FVec Ideal S2048 .f32) (ix1 ⟨64 * r.val + s.val, lt_row r s⟩) = 0 := by pointwise
  rw [h0]
  refine (zero_add _).trans ?_
  refine (Fintype.sum_equiv (Equiv.piUnique fun a : Fin 1 => Fin (S131072.size a)) _ _ fun j => ?_)
  have hj : j = ix1 (j 0) := eq_ix1 j
  refine if_congr ?_ ?_ rfl
  · rw [hj]; exact lands_counts _ _ _
  · pointwise

end Cert.Proof.Re

end
-- ==== Proof.Ideal.Values.lean ====
/- The kernel over the extended reals: the values the SparseCore call pools are the product of the image rows with the
   weights, and the bias. -/
module

public import proofs.«01_k».proof.Proof.Ideal.Launch
public import Idealize.ShloMosaic.Lib.Pipeline.ValueKit
public import Idealize.ShloMosaic.Lib.IdealHost

@[expose] public section

noncomputable section

namespace Cert.Proof.Ki

open Idealize.ShloMosaic
open Cert.KernelIdeal Cert.KernelIdeal.Gen
open scoped BigOperators

/-- A block of the product at an index: the bias and the row by column sum. -/
theorem pay_at (b : FVec Ideal S1x256 .f32) (x : FVec Ideal S32x12288 .bf16) (w : FVec Ideal S256x12288 .f32) (i : Fin 32) (j : Fin 256) :
    k0_pay1 (F := Ideal) b x w (ix2 i j) = b (ix2 0 j) + ∑ k : Fin 12288, x (ix2 i k) * w (ix2 j k) := by
  unfold k0_pay1
  pointwise

/-- The whole product at an index. -/
theorem gemmAll_at (x : FVec Ideal S32x12288 .bf16) (w : FVec Ideal S12288x12288 .f32) (b : FVec Ideal S1x12288 .f32) (i : Fin 32) (j : Fin 12288) :
    gemmAll (F := Ideal) x w b (ix2 i j) = b (ix2 0 j) + ∑ k : Fin 12288, x (ix2 i k) * w (ix2 j k) := by
  unfold gemmAll
  refine (pay_at _ _ _ _ _).trans ?_
  have e : ∀ h, (⟨256 * (j.val / 256) + j.val % 256, h⟩ : Fin 12288) = j := fun h => Fin.ext (by dsimp only; omega)
  exact congrArg₂ (· + ·) (congrArg (fun q => b (ix2 0 q)) (e _))
    (Finset.sum_congr rfl fun k _ => congrArg (fun q => x (ix2 i k) * w (ix2 q k)) (e _))

/-- The pooled values of an image array, the weights and the bias. -/
def pooledOf (a : FVec Ideal S32x3x64x64 .f32) (w : FVec Ideal S12288x12288 .f32) (b : FVec Ideal S12288 .f32) : FVec Ideal S32x3x4096 .f32 :=
  shapeCast S32x3x4096 (gemmAll (F := Ideal) (truncf .bf16 (shapeCast S32x12288 a shapeCasts_S32x3x64x64_S32x12288) bitsLt_bf16_f32) w
    (shapeCast S1x12288 b shapeCasts_S12288_S1x12288)) shapeCasts_S32x12288_S32x3x4096

/-- The pooled values at an index. -/
theorem pooledOf_at (a : FVec Ideal S32x3x64x64 .f32) (w : FVec Ideal S12288x12288 .f32) (b : FVec Ideal S12288 .f32) (r : Fin 32) (c : Fin 3) (p : Fin 4096) :
    pooledOf a w b (ix3 r c p) = b (ix1 ⟨c.val * 4096 + p.val, by omega⟩)
      + ∑ k : Fin 12288, shapeCast S32x12288 a shapeCasts_S32x3x64x64_S32x12288 (ix2 r k) * w (ix2 ⟨c.val * 4096 + p.val, by omega⟩ k) := by
  have h : ∀ z : FVec Ideal S32x12288 .f32, shapeCast S32x3x4096 z shapeCasts_S32x12288_S32x3x4096 (ix3 r c p) = z (ix2 r ⟨c.val * 4096 + p.val, by omega⟩) := fun z => by
    pointwise
  have hb : ∀ q : Fin 12288, shapeCast S1x12288 b shapeCasts_S12288_S1x12288 (ix2 0 q) = b (ix1 q) := fun q => by
    pointwise
  exact (h _).trans ((gemmAll_at _ _ _ _ _).trans (congrArg (· + _) (hb _)))

/-- The pooled values of the program are those of its argument arrays. -/
theorem pooled_eq (m : (ℓ : Loc nD τ sig) → Buf (Elt Ideal) ℓ) (d : Dev nD) :
    pooled m d = pooledOf (m (d, Proc.devRef .tc main_arg0)) (m (d, Proc.devRef .tc main_arg2)) (m (d, Proc.devRef .tc main_arg3)) := rfl

end Cert.Proof.Ki

end
-- ==== Proof.Algebraic.lean ====
/- The algebraic claim: over the extended reals the kernel's result is the reference's, label by label. -/
module

public import proofs.«01_k».proof.Defs
public import proofs.«01_k».proof.Proof.Sums
public import proofs.«01_k».proof.Proof.Reference
public import proofs.«01_k».proof.Proof.Ideal.Values
public import proofs.«01_k».proof.Proof.Frames

@[expose] public section

noncomputable section

namespace Cert.Proof

open Idealize.ShloMosaic Idealize.SL.Sem
open scoped BigOperators

/-- The kernel's result and the reference's, of the same arguments with every label below sixty-four, agree. -/
theorem result_eq (a : FVec Ideal Cert.ReferenceIdeal.S32x3x64x64 .f32) (g : IVec Cert.ReferenceIdeal.S32x4096 32)
    (w : FVec Ideal Cert.ReferenceIdeal.S12288x12288 .f32) (b : FVec Ideal Cert.ReferenceIdeal.S12288 .f32) (hg : ∀ i, (g i).toNat < 64) :
    Re.means (Re.sums g (Re.vals a w b)) (Re.counts g) = outAll (F := Ideal) (Ki.pooledOf a w b) g := by
  funext (y : Cert.ReferenceIdeal.S32x64x3.Idx)
  obtain ⟨r, s, c, rfl⟩ : ∃ (r : Fin 32) (s : Fin 64) (c : Fin 3), y = ix3 r s c := ⟨y 0, y 1, y 2, eq_ix3 y⟩
  rw [Re.means_at, Re.sums_at g hg, Re.counts_at g hg]
  refine Eq.trans ?_ (rowMeans_div (segRow g r) (pixRow (Ki.pooledOf a w b) r) s c).symm
  refine congrArg (fun z => Ideal.div z _) (Finset.sum_congr rfl fun p _ => ?_)
  refine congrArg (fun z : EReal => if (g (ix2 r p)).toNat = s.val then z else 0) ?_
  rw [Re.vals_at]
  exact (add_comm _ _).trans (Ki.pooledOf_at a w b r c p).symm

/-- `Cert.algebraic_KernelIdeal_ReferenceIdeal` (Defs.lean): both runs end with the same result. -/
theorem algebraic : Cert.algebraic_KernelIdeal_ReferenceIdeal := fun m ρ m' ρ' hpre hm => by
  refine ⟨fun c => outAll (F := Ideal) (Ki.pooled m c) (m (Ki.gLoc c)), ?_, ?_⟩
  · exact (θ_run Cert.KernelIdeal.defs _ _).mono (fun _ h c => ⟨(h.1 c).2.1, (h.1 c).2.2.1, (h.1 c).1, (h.1 c).2.2.2.1, (h.1 c).2.2.2.2⟩)
      (Ki.run_main (F := Ideal) m ρ fun d i => labels_lt _ _ _ _ (hpre d) i)
  · refine (θ_run Cert.ReferenceIdeal.defs _ _).mono (fun _ h c => ⟨(h c).1.trans ?_, (h c).2⟩) (Cert.ReferenceIdeal.Value.run (F := Ideal) m' ρ')
    obtain ⟨e0, e1, e2, e3⟩ := hm c
    rw [e0, e1, e2, e3]
    exact result_eq _ _ _ _ fun i => labels_lt _ _ _ _ (hpre c) i

end Cert.Proof

end
-- ==== Proof.lean ====
module

public import proofs.«01_k».proof.Defs
public import proofs.«01_k».proof.Proof.Frames
public import proofs.«01_k».proof.Proof.Algebraic
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_labels_in_range

@[expose] public section

noncomputable section

namespace Cert.Proof

/-- The certificate: every claim of Defs.lean. -/
theorem claim : Cert.Claim := ⟨Cert.Kernel.Gen.facts, Cert.KernelIdeal.Gen.facts, Cert.ReferenceIdeal.Gen.facts, Cert.Pre_labels_in_range.Gen.facts,
  frame_kernel, frame_ideal, frame_reference, frame_reference_pre, trivial, algebraic⟩

end Cert.Proof

end
